-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sketches [hPre_sketches : Cert.Pre_sketches.Facts] (m : (ℓ : Loc Cert.KernelIdeal.nD Cert.KernelIdeal.τ Cert.KernelIdeal.sig) → Buf (Elt Ideal) ℓ) : Prop :=
  ∀ c : Dev Cert.KernelIdeal.nD,
    (Cert.Pre_sketches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_sketches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_sketches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_sketches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_sketches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_sketches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sketches [hPre_sketches : Cert.Pre_sketches.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sketches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_sketches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_sketches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_sketches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_sketches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_sketches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sketches [hKernelIdeal : Cert.KernelIdeal.Facts] [hPre_sketches : Cert.Pre_sketches.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sketches m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sketches [hReferenceIdeal : Cert.ReferenceIdeal.Facts] [hPre_sketches : Cert.Pre_sketches.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sketches m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sketches [hKernelIdeal : Cert.KernelIdeal.Facts] [hReferenceIdeal : Cert.ReferenceIdeal.Facts] [hPre_sketches : Cert.Pre_sketches.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sketches m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v189) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sketches : Cert.Pre_sketches.Facts),
    quiescent_Kernel (hKernel := hKernel)
    ∧ quiescent_KernelIdeal (hKernelIdeal := hKernelIdeal)
    ∧ quiescent_KernelIdeal_pre_sketches (hKernelIdeal := hKernelIdeal) (hPre_sketches := hPre_sketches)
    ∧ quiescent_ReferenceIdeal (hReferenceIdeal := hReferenceIdeal)
    ∧ quiescent_ReferenceIdeal_pre_sketches (hReferenceIdeal := hReferenceIdeal) (hPre_sketches := hPre_sketches)
    ∧ preserves_Kernel_KernelIdeal
    ∧ algebraic_KernelIdeal_ReferenceIdeal_pre_sketches (hKernelIdeal := hKernelIdeal) (hReferenceIdeal := hReferenceIdeal) (hPre_sketches := hPre_sketches)
-- ==== Pre_sketches.lean ====
abbrev S16x512x14x14 : Shape := ⟨4, ![16, 512, 14, 14]⟩
abbrev S512x8192 : Shape := ⟨2, ![512, 8192]⟩
abbrev S_ : Shape := ⟨0, ![]⟩
abbrev S512 : Shape := ⟨1, ![512]⟩

class Facts : Prop where
  bcast_S_S16x512x14x14 : S_.BroadcastsInDim S16x512x14x14 (![] : Fin 0 → Fin S16x512x14x14.rank)
  bcast_S_S512x8192 : S_.BroadcastsInDim S512x8192 (![] : Fin 0 → Fin S512x8192.rank)
  natLt_1_32 : 1 < 32
  reducesTo_S512x8192_S512_d1 : S512x8192.ReducesTo [1] S512
  h_S_ : 0 < S_.numel
  bcast_S_S512 : S_.BroadcastsInDim S512 (![] : Fin 0 → Fin S512.rank)

variable [Facts]

def fn_part1 {F : FTy → Type} [FloatOps F] (main_arg2 : FVec F S512x8192 .f32) (main_arg3 : FVec F S512x8192 .f32) (main_v2 : IVec S16x512x14x14 1) (main_v5 : IVec S16x512x14x14 1) (main_v13 : IVec S512x8192 1) (main_v15 : IVec S512x8192 1) (main_v16 : FVec F S512x8192 .f32) : IVec S16x512x14x14 1 × IVec S16x512x14x14 1 × IVec S512x8192 1 × IVec S512x8192 1 × IVec S512 1 × IVec S512 1 :=
  let main_v17 : IVec S512x8192 1 := cmpf .oeq main_arg3 main_v16
  let main_v18 : IVec S512x8192 1 := ori main_v15 main_v17
  let main_cst_6 : FVec F S_ .f32 := constant S_ .f32 0xBF800000#32
  let main_v19 : FVec F S512x8192 .f32 := broadcastInDim S512x8192 ![] bcast_S_S512x8192 main_cst_6
  let main_v20 : IVec S512x8192 1 := cmpf .oeq main_arg3 main_v19
  let main_v21 : IVec S512x8192 1 := ori main_v18 main_v20
  let main_cst_7 : FVec F S_ .f32 := constant S_ .f32 0x00000000#32
  let main_v22 : FVec F S512x8192 .f32 := broadcastInDim S512x8192 ![] bcast_S_S512x8192 main_cst_7
  let main_v23 : IVec S512x8192 1 := cmpf .une main_arg2 main_v22
  let main_v24 : IVec S512x8192 32 := (extui 32 · natLt_1_32) main_v23
  let main_c : IVec S_ 32 := constantI S_ 32 0#32
  let main_v25 : IVec S512 32 := (fun x v => Host.reduce IntOp.addi x v reducesTo_S512x8192_S512_d1 h_S_) main_v24 main_c
  let main_c_8 : IVec S_ 32 := constantI S_ 32 1#32
  let main_v26 : IVec S512 32 := broadcastInDim S512 ![] bcast_S_S512 main_c_8
  let main_v27 : IVec S512 1 := cmpi .eq main_v25 main_v26
  let main_cst_9 : FVec F S_ .f32 := constant S_ .f32 0x00000000#32
  let main_v28 : FVec F S512x8192 .f32 := broadcastInDim S512x8192 ![] bcast_S_S512x8192 main_cst_9
  let main_v29 : IVec S512x8192 1 := cmpf .une main_arg3 main_v28
  let main_v30 : IVec S512x8192 32 := (extui 32 · natLt_1_32) main_v29
  let main_c_10 : IVec S_ 32 := constantI S_ 32 0#32
  let main_v31 : IVec S512 32 := (fun x v => Host.reduce IntOp.addi x v reducesTo_S512x8192_S512_d1 h_S_) main_v30 main_c_10
  let main_c_11 : IVec S_ 32 := constantI S_ 32 1#32
  let main_v32 : IVec S512 32 := broadcastInDim S512 ![] bcast_S_S512 main_c_11
  let main_v33 : IVec S512 1 := cmpi .eq main_v31 main_v32
  (main_v2, main_v5, main_v13, main_v21, main_v27, main_v33)

def fn {F : FTy → Type} [FloatOps F] (main_arg0 : FVec F S16x512x14x14 .f32) (main_arg1 : FVec F S16x512x14x14 .f32) (main_arg2 : FVec F S512x8192 .f32) (main_arg3 : FVec F S512x8192 .f32) : IVec S16x512x14x14 1 × IVec S16x512x14x14 1 × IVec S512x8192 1 × IVec S512x8192 1 × IVec S512 1 × IVec S512 1 :=
  let main_v0 : FVec F S16x512x14x14 .f32 := Host.absf main_arg0
  let main_cst : FVec F S_ .f32 := constant S_ .f32 0x7F800000#32
  let main_v1 : FVec F S16x512x14x14 .f32 := broadcastInDim S16x512x14x14 ![] bcast_S_S16x512x14x14 main_cst
  let main_v2 : IVec S16x512x14x14 1 := cmpf .olt main_v0 main_v1
  let main_v3 : FVec F S16x512x14x14 .f32 := Host.absf main_arg1
  let main_cst_0 : FVec F S_ .f32 := constant S_ .f32 0x7F800000#32
  let main_v4 : FVec F S16x512x14x14 .f32 := broadcastInDim S16x512x14x14 ![] bcast_S_S16x512x14x14 main_cst_0
  let main_v5 : IVec S16x512x14x14 1 := cmpf .olt main_v3 main_v4
  let main_cst_1 : FVec F S_ .f32 := constant S_ .f32 0x00000000#32
  let main_v6 : FVec F S512x8192 .f32 := broadcastInDim S512x8192 ![] bcast_S_S512x8192 main_cst_1
  let main_v7 : IVec S512x8192 1 := cmpf .oeq main_arg2 main_v6
  let main_cst_2 : FVec F S_ .f32 := constant S_ .f32 0x3F800000#32
  let main_v8 : FVec F S512x8192 .f32 := broadcastInDim S512x8192 ![] bcast_S_S512x8192 main_cst_2
  let main_v9 : IVec S512x8192 1 := cmpf .oeq main_arg2 main_v8
  let main_v10 : IVec S512x8192 1 := ori main_v7 main_v9
  let main_cst_3 : FVec F S_ .f32 := constant S_ .f32 0xBF800000#32
  let main_v11 : FVec F S512x8192 .f32 := broadcastInDim S512x8192 ![] bcast_S_S512x8192 main_cst_3
  let main_v12 : IVec S512x8192 1 := cmpf .oeq main_arg2 main_v11
  let main_v13 : IVec S512x8192 1 := ori main_v10 main_v12
  let main_cst_4 : FVec F S_ .f32 := constant S_ .f32 0x00000000#32
  let main_v14 : FVec F S512x8192 .f32 := broadcastInDim S512x8192 ![] bcast_S_S512x8192 main_cst_4
  let main_v15 : IVec S512x8192 1 := cmpf .oeq main_arg3 main_v14
  let main_cst_5 : FVec F S_ .f32 := constant S_ .f32 0x3F800000#32
  let main_v16 : FVec F S512x8192 .f32 := broadcastInDim S512x8192 ![] bcast_S_S512x8192 main_cst_5
  fn_part1 (F := F) main_arg2 main_arg3 main_v2 main_v5 main_v13 main_v15 main_v16
-- ==== Kernel.lean ====
abbrev S16x512x14x14 : Shape := ⟨4, ![16, 512, 14, 14]⟩
abbrev S512x8192 : Shape := ⟨2, ![512, 8192]⟩
abbrev S16x512x196 : Shape := ⟨3, ![16, 512, 196]⟩
abbrev S1x16x512x196 : Shape := ⟨4, ![1, 16, 512, 196]⟩
abbrev S2x16x512x196 : Shape := ⟨4, ![2, 16, 512, 196]⟩
abbrev S2x3136x512 : Shape := ⟨3, ![2, 3136, 512]⟩
abbrev S1x3136x512 : Shape := ⟨3, ![1, 3136, 512]⟩
abbrev S1x1x512x196 : Shape := ⟨4, ![1, 1, 512, 196]⟩
abbrev S512x196 : Shape := ⟨2, ![512, 196]⟩
abbrev S196x512 : Shape := ⟨2, ![196, 512]⟩
abbrev S3136x512 : Shape := ⟨2, ![3136, 512]⟩
abbrev S64 : Shape := ⟨1, ![64]⟩
abbrev S128 : Shape := ⟨1, ![128]⟩
abbrev S8192 : Shape := ⟨1, ![8192]⟩
abbrev S_ : Shape := ⟨0, ![]⟩
abbrev S512 : Shape := ⟨1, ![512]⟩
abbrev S1x8192 : Shape := ⟨2, ![1, 8192]⟩
abbrev S512x1 : Shape := ⟨2, ![512, 1]⟩
abbrev S1x64 : Shape := ⟨2, ![1, 64]⟩
abbrev S512x64 : Shape := ⟨2, ![512, 64]⟩
abbrev S1x128 : Shape := ⟨2, ![1, 128]⟩
abbrev S512x128 : Shape := ⟨2, ![512, 128]⟩
abbrev S512x64x1 : Shape := ⟨3, ![512, 64, 1]⟩
abbrev S512x1x128 : Shape := ⟨3, ![512, 1, 128]⟩
abbrev S512x64x128 : Shape := ⟨3, ![512, 64, 128]⟩
abbrev S1x512x64x128 : Shape := ⟨4, ![1, 512, 64, 128]⟩
abbrev S4x512x64x128 : Shape := ⟨4, ![4, 512, 64, 128]⟩
abbrev S4x64x3136x128 : Shape := ⟨4, ![4, 64, 3136, 128]⟩
abbrev S1x512x8x128 : Shape := ⟨4, ![1, 512, 8, 128]⟩
abbrev S1x8x3136x128 : Shape := ⟨4, ![1, 8, 3136, 128]⟩
abbrev S1x512x1x128 : Shape := ⟨4, ![1, 512, 1, 128]⟩
abbrev S512x1024 : Shape := ⟨2, ![512, 1024]⟩
abbrev S3136x1024 : Shape := ⟨2, ![3136, 1024]⟩
abbrev S3136x128 : Shape := ⟨2, ![3136, 128]⟩
abbrev S1x1x3136x128 : Shape := ⟨4, ![1, 1, 3136, 128]⟩
abbrev S128x1 : Shape := ⟨2, ![128, 1]⟩
abbrev S128x128 : Shape := ⟨2, ![128, 128]⟩
abbrev S64x1 : Shape := ⟨2, ![64, 1]⟩
abbrev S64x128 : Shape := ⟨2, ![64, 128]⟩
abbrev S64x1x128 : Shape := ⟨3, ![64, 1, 128]⟩
abbrev S64x32x128 : Shape := ⟨3, ![64, 32, 128]⟩
abbrev S64x64 : Shape := ⟨2, ![64, 64]⟩
abbrev S3136x8192 : Shape := ⟨2, ![3136, 8192]⟩
abbrev S4x64x32x128 : Shape := ⟨4, ![4, 64, 32, 128]⟩
abbrev S32x8192 : Shape := ⟨2, ![32, 8192]⟩
abbrev S1x64x32x128 : Shape := ⟨4, ![1, 64, 32, 128]⟩
abbrev S1x32x128 : Shape := ⟨3, ![1, 32, 128]⟩
abbrev S32x128 : Shape := ⟨2, ![32, 128]⟩
abbrev S16x14x14x8192 : Shape := ⟨4, ![16, 14, 14, 8192]⟩

abbrev nBuf : Space → Nat
  | .hbm => 250
  | .vmem => 20
  | .smem => 0
  | _ => 0

abbrev hbmTy0_0 (i : Nat) : BufTy := match i % 128 with
  | 0 => ⟨S16x512x14x14, .f32⟩
  | 1 => ⟨S16x512x14x14, .f32⟩
  | 2 => ⟨S512x8192, .f32⟩
  | 3 => ⟨S512x8192, .f32⟩
  | 4 => ⟨S16x512x196, .f32⟩
  | 5 => ⟨S16x512x196, .f32⟩
  | 6 => ⟨S1x16x512x196, .f32⟩
  | 7 => ⟨S1x16x512x196, .f32⟩
  | 8 => ⟨S2x16x512x196, .f32⟩
  | 9 => ⟨S2x3136x512, .bf16⟩
  | 10 => ⟨S64, .f32⟩
  | 11 => ⟨S128, .f32⟩
  | 12 => ⟨S8192, .f32⟩
  | 13 => ⟨S_, .f32⟩
  | 14 => ⟨S512, .f32⟩
  | 15 => ⟨S1x8192, .f32⟩
  | 16 => ⟨S512x8192, .f32⟩
  | 17 => ⟨S512x8192, .f32⟩
  | 18 => ⟨S_, .f32⟩
  | 19 => ⟨S512, .f32⟩
  | 20 => ⟨S512, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S512x1, .f32⟩
  | 29 => ⟨S512x1, .f32⟩
  | 30 => ⟨S512x1, .f32⟩
  | 31 => ⟨S1x64, .f32⟩
  | 32 => ⟨S512x64, .f32⟩
  | 33 => ⟨S512x64, .f32⟩
  | 34 => ⟨S512x64, .f32⟩
  | 35 => ⟨S_, .f32⟩
  | 36 => ⟨S_, .f32⟩
  | 37 => ⟨S_, .i32⟩
  | 38 => ⟨S_, .f32⟩
  | 39 => ⟨S512, .f32⟩
  | 40 => ⟨S512, .f32⟩
  | 41 => ⟨S_, .f32⟩
  | 42 => ⟨S512, .f32⟩
  | 43 => ⟨S512, .i1⟩
  | 44 => ⟨S_, .f32⟩
  | 45 => ⟨S512, .f32⟩
  | 46 => ⟨S512, .i1⟩
  | 47 => ⟨S_, .f32⟩
  | 48 => ⟨S_, .i1⟩
  | 49 => ⟨S512, .i1⟩
  | 50 => ⟨S512, .i1⟩
  | 51 => ⟨S512, .i1⟩
  | 52 => ⟨S512, .f32⟩
  | 53 => ⟨S512, .f32⟩
  | 54 => ⟨S512, .f32⟩
  | 55 => ⟨S512x1, .f32⟩
  | 56 => ⟨S512x1, .f32⟩
  | 57 => ⟨S512x1, .f32⟩
  | 58 => ⟨S1x128, .f32⟩
  | 59 => ⟨S512x128, .f32⟩
  | 60 => ⟨S512x128, .f32⟩
  | 61 => ⟨S512x128, .f32⟩
  | 62 => ⟨S512x64, .f32⟩
  | 63 => ⟨S512x1, .f32⟩
  | 64 => ⟨S512x64, .f32⟩
  | 65 => ⟨S512x64, .f32⟩
  | 66 => ⟨S512x64, .f32⟩
  | 67 => ⟨S512x1, .f32⟩
  | 68 => ⟨S512x64, .f32⟩
  | 69 => ⟨S512x64, .f32⟩
  | 70 => ⟨S512x128, .f32⟩
  | 71 => ⟨S512x128, .f32⟩
  | 72 => ⟨S512x64x1, .f32⟩
  | 73 => ⟨S512x1x128, .f32⟩
  | 74 => ⟨S512x64x128, .f32⟩
  | 75 => ⟨S512x64x128, .f32⟩
  | 76 => ⟨S512x64x128, .f32⟩
  | 77 => ⟨S512x64x1, .f32⟩
  | 78 => ⟨S512x1x128, .f32⟩
  | 79 => ⟨S512x64x128, .f32⟩
  | 80 => ⟨S512x64x128, .f32⟩
  | 81 => ⟨S512x64x128, .f32⟩
  | 82 => ⟨S512x64x128, .f32⟩
  | 83 => ⟨S512x64x1, .f32⟩
  | 84 => ⟨S512x1x128, .f32⟩
  | 85 => ⟨S512x64x128, .f32⟩
  | 86 => ⟨S512x64x128, .f32⟩
  | 87 => ⟨S512x64x128, .f32⟩
  | 88 => ⟨S512x64x1, .f32⟩
  | 89 => ⟨S512x1x128, .f32⟩
  | 90 => ⟨S512x64x128, .f32⟩
  | 91 => ⟨S512x64x128, .f32⟩
  | 92 => ⟨S512x64x128, .f32⟩
  | 93 => ⟨S512x64x128, .f32⟩
  | 94 => ⟨S512x64x128, .f32⟩
  | 95 => ⟨S_, .f32⟩
  | 96 => ⟨S512, .f32⟩
  | 97 => ⟨S1x8192, .f32⟩
  | 98 => ⟨S512x8192, .f32⟩
  | 99 => ⟨S512x8192, .f32⟩
  | 100 => ⟨S_, .f32⟩
  | 101 => ⟨S512, .f32⟩
  | 102 => ⟨S512, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S512x1, .f32⟩
  | 111 => ⟨S512x1, .f32⟩
  | 112 => ⟨S512x1, .f32⟩
  | 113 => ⟨S1x64, .f32⟩
  | 114 => ⟨S512x64, .f32⟩
  | 115 => ⟨S512x64, .f32⟩
  | 116 => ⟨S512x64, .f32⟩
  | 117 => ⟨S_, .f32⟩
  | 118 => ⟨S_, .f32⟩
  | 119 => ⟨S_, .i32⟩
  | 120 => ⟨S_, .f32⟩
  | 121 => ⟨S512, .f32⟩
  | 122 => ⟨S512, .f32⟩
  | 123 => ⟨S_, .f32⟩
  | 124 => ⟨S512, .f32⟩
  | 125 => ⟨S512, .i1⟩
  | 126 => ⟨S_, .f32⟩
  | 127 => ⟨S512, .f32⟩
  | _ => ⟨S16x512x14x14, .f32⟩

abbrev hbmTy0_1 (i : Nat) : BufTy := match i % 128 with
  | 0 => ⟨S512, .i1⟩
  | 1 => ⟨S_, .f32⟩
  | 2 => ⟨S_, .i1⟩
  | 3 => ⟨S512, .i1⟩
  | 4 => ⟨S512, .i1⟩
  | 5 => ⟨S512, .i1⟩
  | 6 => ⟨S512, .f32⟩
  | 7 => ⟨S512, .f32⟩
  | 8 => ⟨S512, .f32⟩
  | 9 => ⟨S512x1, .f32⟩
  | 10 => ⟨S512x1, .f32⟩
  | 11 => ⟨S512x1, .f32⟩
  | 12 => ⟨S1x128, .f32⟩
  | 13 => ⟨S512x128, .f32⟩
  | 14 => ⟨S512x128, .f32⟩
  | 15 => ⟨S512x128, .f32⟩
  | 16 => ⟨S512x64, .f32⟩
  | 17 => ⟨S512x1, .f32⟩
  | 18 => ⟨S512x64, .f32⟩
  | 19 => ⟨S512x64, .f32⟩
  | 20 => ⟨S512x64, .f32⟩
  | 21 => ⟨S512x1, .f32⟩
  | 22 => ⟨S512x64, .f32⟩
  | 23 => ⟨S512x64, .f32⟩
  | 24 => ⟨S512x128, .f32⟩
  | 25 => ⟨S512x128, .f32⟩
  | 26 => ⟨S512x64x1, .f32⟩
  | 27 => ⟨S512x1x128, .f32⟩
  | 28 => ⟨S512x64x128, .f32⟩
  | 29 => ⟨S512x64x128, .f32⟩
  | 30 => ⟨S512x64x128, .f32⟩
  | 31 => ⟨S512x64x1, .f32⟩
  | 32 => ⟨S512x1x128, .f32⟩
  | 33 => ⟨S512x64x128, .f32⟩
  | 34 => ⟨S512x64x128, .f32⟩
  | 35 => ⟨S512x64x128, .f32⟩
  | 36 => ⟨S512x64x128, .f32⟩
  | 37 => ⟨S512x64x1, .f32⟩
  | 38 => ⟨S512x1x128, .f32⟩
  | 39 => ⟨S512x64x128, .f32⟩
  | 40 => ⟨S512x64x128, .f32⟩
  | 41 => ⟨S512x64x128, .f32⟩
  | 42 => ⟨S512x64x1, .f32⟩
  | 43 => ⟨S512x1x128, .f32⟩
  | 44 => ⟨S512x64x128, .f32⟩
  | 45 => ⟨S512x64x128, .f32⟩
  | 46 => ⟨S512x64x128, .f32⟩
  | 47 => ⟨S512x64x128, .f32⟩
  | 48 => ⟨S512x64x128, .f32⟩
  | 49 => ⟨S1x512x64x128, .f32⟩
  | 50 => ⟨S1x512x64x128, .f32⟩
  | 51 => ⟨S1x512x64x128, .f32⟩
  | 52 => ⟨S1x512x64x128, .f32⟩
  | 53 => ⟨S4x512x64x128, .f32⟩
  | 54 => ⟨S4x512x64x128, .bf16⟩
  | 55 => ⟨S4x64x3136x128, .bf16⟩
  | 56 => ⟨S64, .f32⟩
  | 57 => ⟨S128, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S128x1, .f32⟩
  | 66 => ⟨S1x128, .f32⟩
  | 67 => ⟨S128x128, .f32⟩
  | 68 => ⟨S128x128, .f32⟩
  | 69 => ⟨S128x128, .f32⟩
  | 70 => ⟨S128x128, .f32⟩
  | 71 => ⟨S128x128, .f32⟩
  | 72 => ⟨S128x128, .f32⟩
  | 73 => ⟨S128x128, .bf16⟩
  | 74 => ⟨S_, .f32⟩
  | 75 => ⟨S_, .f32⟩
  | 76 => ⟨S128x1, .f32⟩
  | 77 => ⟨S1x128, .f32⟩
  | 78 => ⟨S128x128, .f32⟩
  | 79 => ⟨S128x128, .f32⟩
  | 80 => ⟨S128x128, .f32⟩
  | 81 => ⟨S128x128, .f32⟩
  | 82 => ⟨S128x128, .f32⟩
  | 83 => ⟨S128x128, .f32⟩
  | 84 => ⟨S128x128, .bf16⟩
  | 85 => ⟨S_, .f32⟩
  | 86 => ⟨S_, .f32⟩
  | 87 => ⟨S64x1, .f32⟩
  | 88 => ⟨S1x128, .f32⟩
  | 89 => ⟨S64x128, .f32⟩
  | 90 => ⟨S64x128, .f32⟩
  | 91 => ⟨S64x128, .f32⟩
  | 92 => ⟨S64x128, .f32⟩
  | 93 => ⟨S64x128, .f32⟩
  | 94 => ⟨S64x128, .f32⟩
  | 95 => ⟨S64x1x128, .f32⟩
  | 96 => ⟨S64x32x128, .f32⟩
  | 97 => ⟨S64x128, .f32⟩
  | 98 => ⟨S64x1x128, .f32⟩
  | 99 => ⟨S64x32x128, .f32⟩
  | 100 => ⟨S_, .f32⟩
  | 101 => ⟨S_, .f32⟩
  | 102 => ⟨S64x1, .f32⟩
  | 103 => ⟨S1x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S_, .f32⟩
  | 111 => ⟨S_, .f32⟩
  | 112 => ⟨S64x1, .f32⟩
  | 113 => ⟨S1x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S3136x8192, .f32⟩
  | 121 => ⟨S16x14x14x8192, .f32⟩
  | _ => ⟨S16x512x14x14, .f32⟩

abbrev hbmTy (i : Nat) : BufTy := match i / 128 with
  | 0 => hbmTy0_0 i
  | 1 => hbmTy0_1 i
  | _ => ⟨S16x512x14x14, .f32⟩

abbrev bufTy : (tb : Table) → Fin (tcTables nBuf tb) → BufTy
  | .hbm, ⟨i, _⟩ => hbmTy i
  | .local _ .vmem, ⟨0, _⟩ => ⟨S1x16x512x196, .f32⟩
  | .local _ .vmem, ⟨1, _⟩ => ⟨S1x16x512x196, .f32⟩
  | .local _ .vmem, ⟨2, _⟩ => ⟨S1x3136x512, .bf16⟩
  | .local _ .vmem, ⟨3, _⟩ => ⟨S1x3136x512, .bf16⟩
  | .local _ .vmem, ⟨4, _⟩ => ⟨S1x3136x512, .bf16⟩
  | .local _ .vmem, ⟨5, _⟩ => ⟨S1x3136x512, .bf16⟩
  | .local _ .vmem, ⟨6, _⟩ => ⟨S1x512x8x128, .bf16⟩
  | .local _ .vmem, ⟨7, _⟩ => ⟨S1x512x8x128, .bf16⟩
  | .local _ .vmem, ⟨8, _⟩ => ⟨S1x8x3136x128, .bf16⟩
  | .local _ .vmem, ⟨9, _⟩ => ⟨S1x8x3136x128, .bf16⟩
  | .local _ .vmem, ⟨10, _⟩ => ⟨S4x64x32x128, .bf16⟩
  | .local _ .vmem, ⟨11, _⟩ => ⟨S4x64x32x128, .bf16⟩
  | .local _ .vmem, ⟨12, _⟩ => ⟨S128x128, .bf16⟩
  | .local _ .vmem, ⟨13, _⟩ => ⟨S128x128, .bf16⟩
  | .local _ .vmem, ⟨14, _⟩ => ⟨S64x32x128, .f32⟩
  | .local _ .vmem, ⟨15, _⟩ => ⟨S64x32x128, .f32⟩
  | .local _ .vmem, ⟨16, _⟩ => ⟨S64x64, .f32⟩
  | .local _ .vmem, ⟨17, _⟩ => ⟨S64x64, .f32⟩
  | .local _ .vmem, ⟨18, _⟩ => ⟨S32x8192, .f32⟩
  | .local _ .vmem, ⟨19, _⟩ => ⟨S32x8192, .f32⟩
  | _, _ => ⟨S16x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_cst : Ref sig .tc := ⟨.hbm, 41, rfl⟩
abbrev main_call0_v3 : Ref sig .tc := ⟨.hbm, 42, rfl⟩
abbrev main_call0_v4 : Ref sig .tc := ⟨.hbm, 43, rfl⟩
abbrev main_call0_cst_0 : Ref sig .tc := ⟨.hbm, 44, rfl⟩
abbrev main_call0_v5 : Ref sig .tc := ⟨.hbm, 45, rfl⟩
abbrev main_call0_v6 : Ref sig .tc := ⟨.hbm, 46, rfl⟩
abbrev main_call0_cst_1 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_6 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_7 : Ref sig .tc := ⟨.hbm, 100, rfl⟩
abbrev main_v71 : Ref sig .tc := ⟨.hbm, 101, rfl⟩
abbrev main_v72 : Ref sig .tc := ⟨.hbm, 102, rfl⟩
abbrev main_cst_8 : Ref sig .tc := ⟨.hbm, 103, rfl⟩
abbrev main_cst_9 : Ref sig .tc := ⟨.hbm, 104, rfl⟩
abbrev main_v73 : Ref sig .tc := ⟨.hbm, 105, rfl⟩
abbrev main_cst_10 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_12 : Ref sig .tc := ⟨.hbm, 117, rfl⟩
abbrev main_v83 : Ref sig .tc := ⟨.hbm, 118, rfl⟩
abbrev main_c_13 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_cst : Ref sig .tc := ⟨.hbm, 123, rfl⟩
abbrev main_call1_v3 : Ref sig .tc := ⟨.hbm, 124, rfl⟩
abbrev main_call1_v4 : Ref sig .tc := ⟨.hbm, 125, rfl⟩
abbrev main_call1_cst_0 : Ref sig .tc := ⟨.hbm, 126, rfl⟩
abbrev main_call1_v5 : Ref sig .tc := ⟨.hbm, 127, rfl⟩
abbrev main_call1_v6 : Ref sig .tc := ⟨.hbm, 128, rfl⟩
abbrev main_call1_cst_1 : Ref sig .tc := ⟨.hbm, 129, rfl⟩
abbrev main_call1_v7 : Ref sig .tc := ⟨.hbm, 130, rfl⟩
abbrev main_call1_v8 : Ref sig .tc := ⟨.hbm, 131, rfl⟩
abbrev main_call1_v9 : Ref sig .tc := ⟨.hbm, 132, rfl⟩
abbrev main_call1_v10 : Ref sig .tc := ⟨.hbm, 133, rfl⟩
abbrev main_call1_v11 : Ref sig .tc := ⟨.hbm, 134, rfl⟩
abbrev main_call1_v12 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_14 : Ref sig .tc := ⟨.hbm, 186, rfl⟩
abbrev main_cst_15 : Ref sig .tc := ⟨.hbm, 187, rfl⟩
abbrev main_v134 : Ref sig .tc := ⟨.hbm, 188, rfl⟩
abbrev main_cst_16 : Ref sig .tc := ⟨.hbm, 189, rfl⟩
abbrev main_v135 : Ref sig .tc := ⟨.hbm, 190, rfl⟩
abbrev main_cst_17 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_18 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_19 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_20 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_cst_21 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x512x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3136x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x3136x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x8x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x3136x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![98], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x64x32x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S32x8192 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S16x512x14x14 : Shape := ⟨4, ![16, 512, 14, 14]⟩
abbrev S512x8192 : Shape := ⟨2, ![512, 8192]⟩
abbrev S16x14x14x8192 : Shape := ⟨4, ![16, 14, 14, 8192]⟩
abbrev S16x14x14x16384 : Shape := ⟨4, ![16, 14, 14, 16384]⟩
abbrev S_ : Shape := ⟨0, ![]⟩
abbrev S16x14x14x1 : Shape := ⟨4, ![16, 14, 14, 1]⟩

abbrev nBuf : Space → Nat
  | .hbm => 50
  | .vmem => 0
  | .smem => 0
  | _ => 0

abbrev bufTy : (tb : Table) → Fin (tcTables nBuf tb) → BufTy
  | .hbm, ⟨0, _⟩ => ⟨S16x512x14x14, .f32⟩
  | .hbm, ⟨1, _⟩ => ⟨S16x512x14x14, .f32⟩
  | .hbm, ⟨2, _⟩ => ⟨S512x8192, .f32⟩
  | .hbm, ⟨3, _⟩ => ⟨S512x8192, .f32⟩
  | .hbm, ⟨4, _⟩ => ⟨S16x14x14x8192, .f32⟩
  | .hbm, ⟨5, _⟩ => ⟨S16x14x14x8192, .f32⟩
  | .hbm, ⟨6, _⟩ => ⟨S16x14x14x16384, .f32⟩
  | .hbm, ⟨7, _⟩ => ⟨S_, .f32⟩
  | .hbm, ⟨8, _⟩ => ⟨S16x14x14x8192, .f32⟩
  | .hbm, ⟨9, _⟩ => ⟨S_, .i32⟩
  | .hbm, ⟨10, _⟩ => ⟨S_, .i32⟩
  | .hbm, ⟨11, _⟩ => ⟨S16x14x14x8192, .f32⟩
  | .hbm, ⟨12, _⟩ => ⟨S16x14x14x16384, .f32⟩
  | .hbm, ⟨13, _⟩ => ⟨S_, .i32⟩
  | .hbm, ⟨14, _⟩ => ⟨S_, .i32⟩
  | .hbm, ⟨15, _⟩ => ⟨S16x14x14x8192, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S16x14x14x1, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S16x14x14x8192, .f32⟩
  | .hbm, ⟨42, _⟩ => ⟨S16x14x14x8192, .f32⟩
  | .hbm, ⟨43, _⟩ => ⟨S16x14x14x8192, .f32⟩
  | .hbm, ⟨44, _⟩ => ⟨S16x14x14x8192, .f32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S16x14x14x8192, .f32⟩
  | .hbm, ⟨49, _⟩ => ⟨S16x14x14x8192, .f32⟩
  | _, _ => ⟨S16x512x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_while0c_c_6 : Ref sig .tc := ⟨.hbm, 16, rfl⟩
abbrev main_while0c_v7 : Ref sig .tc := ⟨.hbm, 17, rfl⟩
abbrev main_while0b_c_6 : Ref sig .tc := ⟨.hbm, 18, rfl⟩
abbrev main_while0b_v7 : Ref sig .tc := ⟨.hbm, 19, rfl⟩
abbrev main_while0b_c_7 : Ref sig .tc := ⟨.hbm, 20, rfl⟩
abbrev main_while0b_v8 : Ref sig .tc := ⟨.hbm, 21, rfl⟩
abbrev main_while0b_v9 : Ref sig .tc := ⟨.hbm, 22, rfl⟩
abbrev main_while0b_c_8 : Ref sig .tc := ⟨.hbm, 23, rfl⟩
abbrev main_while0b_v10 : Ref sig .tc := ⟨.hbm, 24, rfl⟩
abbrev main_while0b_v11 : Ref sig .tc := ⟨.hbm, 25, rfl⟩
abbrev main_while0b_c_9 : Ref sig .tc := ⟨.hbm, 26, rfl⟩
abbrev main_while0b_c_10 : Ref sig .tc := ⟨.hbm, 27, rfl⟩
abbrev main_while0b_c_11 : Ref sig .tc := ⟨.hbm, 28, rfl⟩
abbrev main_while0b_v12 : Ref sig .tc := ⟨.hbm, 29, rfl⟩
abbrev main_while0b_c_12 : Ref sig .tc := ⟨.hbm, 30, rfl⟩
abbrev main_while0b_v13 : Ref sig .tc := ⟨.hbm, 31, rfl⟩
abbrev main_while0b_c_13 : Ref sig .tc := ⟨.hbm, 32, rfl⟩
abbrev main_while0b_v14 : Ref sig .tc := ⟨.hbm, 33, rfl⟩
abbrev main_while0b_v15 : Ref sig .tc := ⟨.hbm, 34, rfl⟩
abbrev main_while0b_c_14 : Ref sig .tc := ⟨.hbm, 35, rfl⟩
abbrev main_while0b_v16 : Ref sig .tc := ⟨.hbm, 36, rfl⟩
abbrev main_while0b_v17 : Ref sig .tc := ⟨.hbm, 37, rfl⟩
abbrev main_while0b_c_15 : Ref sig .tc := ⟨.hbm, 38, rfl⟩
abbrev main_while0b_c_16 : Ref sig .tc := ⟨.hbm, 39, rfl⟩
abbrev main_while0b_c_17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_c_18 : Ref sig .tc := ⟨.hbm, 45, rfl⟩
abbrev main_while0b_v22 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩

abbrev nD : Nat := 1
abbrev τ : Topo := Topo.v7x

variable {F : FTy → Type} [FloatOps F]

abbrev main_while0_count : Scf.Loop 32 := ⟨0#32, 8192#32, 1#32⟩
-- ==== Proof.Shapes.lean ====
/- Shape casts, by row-major position, and slices read at coordinates. -/
module

public import Idealize.ShloMosaic.Lib.Pipeline.ValueKit
public import Idealize.ShloMosaic.Lib.ValueLayout

@[expose] public section

noncomputable section

namespace Cert.Bilin

open Idealize.ShloMosaic hiding ix1 ix2 ix3 ix4
open Idealize.ShloMosaic.ValueIdx

variable {α : Type} {a b c d e : ℕ}

/-- Two leading unit axes dropped. -/
theorem cast_11ab_ab (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 0 0 i j) :=
  shapeCast_apply x h _ _ (by
    rw [Shape.rowMajor_val_four, Shape.rowMajor_val_two]
    show ((0 * 1 + 0) * a + i.val) * b + j.val = i.val * b + j.val
    simp only [Nat.zero_mul, Nat.zero_add])

/-- Two leading unit axes added. -/
theorem cast_ab_11ab (x : (⟨2, ![a, b]⟩ : Shape).Idx → α) (h : (⟨2, ![a, b]⟩ : Shape).ShapeCasts ⟨4, ![1, 1, a, b]⟩)
    (i : Fin a) (j : Fin b) : shapeCast ⟨4, ![1, 1, a, b]⟩ x h (ix4 0 0 i j) = x (ix2 i j) :=
  shapeCast_apply x h _ _ (by
    rw [Shape.rowMajor_val_four, Shape.rowMajor_val_two]
    show i.val * b + j.val = ((0 * 1 + 0) * a + i.val) * b + j.val
    simp only [Nat.zero_mul, Nat.zero_add])

/-- A unit axis dropped from the third place. -/
theorem cast_1a1b_ab (x : (⟨4, ![1, a, 1, b]⟩ : Shape).Idx → α) (h : (⟨4, ![1, a, 1, b]⟩ : Shape).ShapeCasts ⟨2, ![a, b]⟩)
    (i : Fin a) (j : Fin b) : shapeCast ⟨2, ![a, b]⟩ x h (ix2 i j) = x (ix4 0 i 0 j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- The last two axes of four joined. -/
theorem cast_abcd (x : (⟨4, ![a, b, c, d]⟩ : Shape).Idx → α) (h : (⟨4, ![a, b, c, d]⟩ : Shape).ShapeCasts ⟨3, ![a, b, e]⟩)
    (i : Fin a) (j : Fin b) (k : Fin c) (l : Fin d) (q : Fin e) (he : e = c * d) (hq : q.val = k.val * d + l.val) :
    shapeCast ⟨3, ![a, b, e]⟩ x h (ix3 i j q) = x (ix4 i j k l) :=
  shapeCast_apply x h _ _ (by
    rw [Shape.rowMajor_val_four, Shape.rowMajor_val_three]
    show ((i.val * b + j.val) * c + k.val) * d + l.val = (i.val * b + j.val) * e + q.val
    rw [hq, he]; ring)

/-- The first axis of two split in three. -/
theorem cast_split {p : ℕ} (x : (⟨2, ![p, d]⟩ : Shape).Idx → α) (h : (⟨2, ![p, d]⟩ : Shape).ShapeCasts ⟨4, ![a, b, c, d]⟩)
    (i : Fin a) (j : Fin b) (k : Fin c) (l : Fin d) (q : Fin p) (hq : q.val = (i.val * b + j.val) * c + k.val) :
    shapeCast ⟨4, ![a, b, c, d]⟩ x h (ix4 i j k l) = x (ix2 q l) :=
  shapeCast_apply x h _ _ (by
    rw [Shape.rowMajor_val_four, Shape.rowMajor_val_two]
    show q.val * d + l.val = ((i.val * b + j.val) * c + k.val) * d + l.val
    rw [hq])

end Cert.Bilin

end
-- ==== Proof.Read.lean ====
/- Arrays at an index: broadcasts between the shapes the host code uses, sums, and the float constants it writes. -/
module

public import Idealize.ShloMosaic.Lib.Pipeline.Value
public import Idealize.ShloMosaic.Lib.IdealHost

@[expose] public section

noncomputable section

namespace Cert.Bilin

open Idealize.ShloMosaic Idealize.ShloMosaic.ValueIdx

section Broadcasts
variable {α : Type} {m n p q : ℕ}

/-- A vector made a column. -/
theorem bc_toCol (h : (⟨1, ![m]⟩ : Shape).BroadcastsInDim ⟨2, ![m, 1]⟩ ![0]) (x : (⟨1, ![m]⟩ : Shape).Idx → α)
    (i : Fin m) (j : Fin 1) : broadcastInDim ⟨2, ![m, 1]⟩ ![0] h x (ix2 i j) = x (ix1 i) :=
  broadcastInDim_apply _ _ _ _ _ fun a => by
    fin_cases a; show i.val = if m = 1 then 0 else i.val; split <;> omega

/-- A vector made a row. -/
theorem bc_toRow (h : (⟨1, ![m]⟩ : Shape).BroadcastsInDim ⟨2, ![1, m]⟩ ![1]) (x : (⟨1, ![m]⟩ : Shape).Idx → α)
    (j : Fin 1) (i : Fin m) : broadcastInDim ⟨2, ![1, m]⟩ ![1] h x (ix2 j i) = x (ix1 i) :=
  broadcastInDim_apply _ _ _ _ _ fun a => by
    fin_cases a; show i.val = if m = 1 then 0 else i.val; split <;> omega

/-- A column repeated along the rows. -/
theorem bc_col (h : (⟨2, ![m, 1]⟩ : Shape).BroadcastsInDim ⟨2, ![m, n]⟩ ![0, 1]) (x : (⟨2, ![m, 1]⟩ : Shape).Idx → α)
    (i : Fin m) (j : Fin n) : broadcastInDim ⟨2, ![m, n]⟩ ![0, 1] h x (ix2 i j) = x (ix2 i 0) :=
  broadcastInDim_apply _ _ _ _ _ fun a => by
    fin_cases a
    · show i.val = if m = 1 then 0 else i.val; split <;> omega
    · rfl

/-- A row repeated along the columns. -/
theorem bc_row (h : (⟨2, ![1, n]⟩ : Shape).BroadcastsInDim ⟨2, ![m, n]⟩ ![0, 1]) (x : (⟨2, ![1, n]⟩ : Shape).Idx → α)
    (i : Fin m) (j : Fin n) : broadcastInDim ⟨2, ![m, n]⟩ ![0, 1] h x (ix2 i j) = x (ix2 0 j) :=
  broadcastInDim_apply _ _ _ _ _ fun a => by
    fin_cases a
    · rfl
    · show j.val = if n = 1 then 0 else j.val; split <;> omega

/-- A matrix given a trailing unit axis. -/
theorem bc_trail (h : (⟨2, ![m, n]⟩ : Shape).BroadcastsInDim ⟨3, ![m, n, 1]⟩ ![0, 1]) (x : (⟨2, ![m, n]⟩ : Shape).Idx → α)
    (i : Fin m) (j : Fin n) (k : Fin 1) : broadcastInDim ⟨3, ![m, n, 1]⟩ ![0, 1] h x (ix3 i j k) = x (ix2 i j) :=
  broadcastInDim_apply _ _ _ _ _ fun a => by
    fin_cases a
    · show i.val = if m = 1 then 0 else i.val; split <;> omega
    · show j.val = if n = 1 then 0 else j.val; split <;> omega

/-- A matrix given a middle unit axis. -/
theorem bc_mid (h : (⟨2, ![m, p]⟩ : Shape).BroadcastsInDim ⟨3, ![m, 1, p]⟩ ![0, 2]) (x : (⟨2, ![m, p]⟩ : Shape).Idx → α)
    (i : Fin m) (j : Fin 1) (k : Fin p) : broadcastInDim ⟨3, ![m, 1, p]⟩ ![0, 2] h x (ix3 i j k) = x (ix2 i k) :=
  broadcastInDim_apply _ _ _ _ _ fun a => by
    fin_cases a
    · show i.val = if m = 1 then 0 else i.val; split <;> omega
    · show k.val = if p = 1 then 0 else k.val; split <;> omega

/-- An array repeated along its trailing unit axis. -/
theorem bc_trail3 (h : (⟨3, ![m, n, 1]⟩ : Shape).BroadcastsInDim ⟨3, ![m, n, p]⟩ ![0, 1, 2])
    (x : (⟨3, ![m, n, 1]⟩ : Shape).Idx → α) (i : Fin m) (j : Fin n) (k : Fin p) :
    broadcastInDim ⟨3, ![m, n, p]⟩ ![0, 1, 2] h x (ix3 i j k) = x (ix3 i j 0) :=
  broadcastInDim_apply _ _ _ _ _ fun a => by
    fin_cases a
    · show i.val = if m = 1 then 0 else i.val; split <;> omega
    · show j.val = if n = 1 then 0 else j.val; split <;> omega
    · rfl

/-- An array repeated along its middle unit axis. -/
theorem bc_mid3 (h : (⟨3, ![m, 1, p]⟩ : Shape).BroadcastsInDim ⟨3, ![m, n, p]⟩ ![0, 1, 2])
    (x : (⟨3, ![m, 1, p]⟩ : Shape).Idx → α) (i : Fin m) (j : Fin n) (k : Fin p) :
    broadcastInDim ⟨3, ![m, n, p]⟩ ![0, 1, 2] h x (ix3 i j k) = x (ix3 i 0 k) :=
  broadcastInDim_apply _ _ _ _ _ fun a => by
    fin_cases a
    · show i.val = if m = 1 then 0 else i.val; split <;> omega
    · rfl
    · show k.val = if p = 1 then 0 else k.val; split <;> omega

/-- A rank-3 array given a leading unit axis. -/
theorem bc_lead (h : (⟨3, ![m, n, p]⟩ : Shape).BroadcastsInDim ⟨4, ![1, m, n, p]⟩ ![1, 2, 3])
    (x : (⟨3, ![m, n, p]⟩ : Shape).Idx → α) (w : Fin 1) (i : Fin m) (j : Fin n) (k : Fin p) :
    broadcastInDim ⟨4, ![1, m, n, p]⟩ ![1, 2, 3] h x (ix4 w i j k) = x (ix3 i j k) :=
  broadcastInDim_apply _ _ _ _ _ fun a => by
    fin_cases a
    · show i.val = if m = 1 then 0 else i.val; split <;> omega
    · show j.val = if n = 1 then 0 else j.val; split <;> omega
    · show k.val = if p = 1 then 0 else k.val; split <;> omega

end Broadcasts

/-! The constants. -/

theorem bits_zero : Ideal.ofBits .f32 0x00000000#32 = ((0 : ℝ) : EReal) := by
  simp [Ideal.ofBits, Ideal.ieee, -EReal.coe_mul]
theorem bits_neg_one : Ideal.ofBits .f32 0xBF800000#32 = ((-1 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_8192 : Ideal.ofBits .f32 0x46000000#32 = ((8192 : ℝ) : EReal) := by
  simp [Ideal.ofBits, Ideal.ieee, -EReal.coe_mul]; norm_num

/-- The angle of the point (-1, 0) is π. -/
theorem atan2_pi : Ideal.atan2 ((0 : ℝ) : EReal) ((-1 : ℝ) : EReal) = ((Real.pi : ℝ) : EReal) := by
  show ((if (0:ℝ) < -1 then _ else if (-1:ℝ) < 0 then (if (0:ℝ) ≤ 0 then Real.arctan (0 / -1) + Real.pi else _) else _ : ℝ) : EReal) = _
  rw [if_neg (by norm_num), if_pos (by norm_num), if_pos le_rfl]; simp

/-- A sum of extended reals that are real is the sum of the reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Bilin

end
-- ==== Proof.KRun.lean ====
/- The kernel's run, with its result: the final contents of the result array are those of the last boundary of
   the segment fold, and the arguments are unchanged. The launch is the generated frame's, stated again with the
   result in its post. -/
module

public import proofs.«01_k».proof.Proof.Gen.KernelIdeal.Frame

@[expose] public section

set_option maxRecDepth 16384

noncomputable section

namespace Cert.KernelIdeal.Bilin

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The run ends with the result array at the last boundary's contents and the arguments as launched. -/
theorem run_result : θ_run defs (onTc (τ := τ) (main (F := F))) ⟨m, fun _ => 0, ρ⟩ (fun r => ∀ c : Dev nD,
      r.2.mem ((c.tc : Thread nD τ).loc main_v189) = W11 m ρ c (Proc.devRef .tc main_v189)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c =>
      ⟨h c _ (mem_uc main_v189 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.KernelIdeal.Bilin

end
-- ==== Proof.Xt.lean ====
/- The first region: each input's pixels by channels, and the host code before it. -/
module

public import proofs.«01_k».proof.Proof.Shapes
public import proofs.«01_k».proof.Proof.Read
public import proofs.«01_k».proof.Proof.KRun

@[expose] public section

set_option maxHeartbeats 1000000

noncomputable section

namespace Cert.Bilin

open Idealize.ShloMosaic hiding ix1 ix2 ix3 ix4
open Idealize.ShloMosaic.ValueIdx Idealize.ShloMosaic.TcCoe Cert.KernelIdeal Cert.KernelIdeal.Gen

/-- Image `n` of a block, pixels by channels. -/
def slab (x0 : Vec Ideal S1x16x512x196 .f32) (n : Fin 16) : FVec Ideal S196x512 .bf16 :=
  fun i => x0 (ix4 0 n (i 1) (i 0))

/-- Loading image `n`, dropping its unit axes, transposing and rounding gives `slab`. -/
theorem slab_eq (x0 : Vec Ideal S1x16x512x196 .f32) (n : Fin 16)
    (inb : ∀ a, (![0, n.val, 0, 0] : Fin 4 → ℕ) a + S1x1x512x196.size a ≤ S1x16x512x196.size a) :
    (truncf .bf16 (transpose S196x512 [1, 0] (shapeCast S512x196
      (View.ld (Val := Elt Ideal) x0 (Rect.unit (s := S1x16x512x196) ![0, n.val, 0, 0] S1x1x512x196.size inb)) shapeCasts_S1x1x512x196_S512x196)
      transposes_S512x196_p1_0_S196x512) bitsLt_bf16_f32 : FVec Ideal S196x512 .bf16) = slab x0 n := by
  have hX : ∀ (ch : Fin 512) (q : Fin 196), (View.ld (Val := Elt Ideal) x0
      (Rect.unit (s := S1x16x512x196) ![0, n.val, 0, 0] S1x1x512x196.size inb) : Vec Ideal S1x1x512x196 .f32) (ix4 0 0 ch q)
        = x0 (ix4 0 n ch q) := fun ch q => by
    refine View.ld_unit_apply_of _ _ _ _ _ _ fun a => ?_
    fin_cases a
    · rfl
    · rfl
    · show ch.val = 0 + ch.val; omega
    · show q.val = 0 + q.val; omega
  generalize (View.ld (Val := Elt Ideal) x0 (Rect.unit (s := S1x16x512x196) ![0, n.val, 0, 0] S1x1x512x196.size inb) : Vec Ideal S1x1x512x196 .f32) = X at hX ⊢
  funext i
  obtain ⟨q, ch, rfl⟩ : ∃ (q : Fin 196) (ch : Fin 512), i = ix2 q ch := ⟨i 0, i 1, by funext a; fin_cases a <;> rfl⟩
  exact (transpose_ix2_apply _ _ q ch).trans ((cast_11ab_ab _ _ ch q).trans (hX ch q))

theorem out0_apply (x0 : Vec Ideal S1x16x512x196 .f32) (n : Fin 16) (q : Fin 196) (c : Fin 512) (p : Fin 3136)
    (hp : p.val = n.val * 196 + q.val) : (out0_1 (F := Ideal) x0 : FVec Ideal S1x3136x512 .bf16) (ix3 0 p c) = x0 (ix4 0 n c q) := by
  have e : (out0_1 (F := Ideal) x0 : FVec Ideal S1x3136x512 .bf16)
      = shapeCast S1x3136x512 (concatenate S3136x512 0 (List.ofFn fun n : Fin 16 => (⟨S196x512, slab x0 n⟩ : (s : Shape) × (s.Idx → EReal)))
          (by exact concatenates_S196x512_S196x512_S196x512_S196x512_S196x512_S196x512_S196x512_S196x512_S196x512_S196x512_S196x512_S196x512_S196x512_S196x512_S196x512_S196x512_S3136x512_d0)) shapeCasts_S3136x512_S1x3136x512 := by
    unfold out0_1
    rw [View.canon_unit_zero (by funext a; fin_cases a <;> rfl)]
    have e0 : k0_pay2 (View.ld x0 r0_0) = slab x0 0 := slab_eq x0 0 _
    have e1 : k0_pay3 (View.ld x0 r0_1) = slab x0 1 := slab_eq x0 1 _
    have e2 : k0_pay4 (View.ld x0 r0_2) = slab x0 2 := slab_eq x0 2 _
    have e3 : k0_pay5 (View.ld x0 r0_3) = slab x0 3 := slab_eq x0 3 _
    have e4 : k0_pay6 (View.ld x0 r0_4) = slab x0 4 := slab_eq x0 4 _
    have e5 : k0_pay7 (View.ld x0 r0_5) = slab x0 5 := slab_eq x0 5 _
    have e6 : k0_pay8 (View.ld x0 r0_6) = slab x0 6 := slab_eq x0 6 _
    have e7 : k0_pay9 (View.ld x0 r0_7) = slab x0 7 := slab_eq x0 7 _
    have e8 : k0_pay10 (View.ld x0 r0_8) = slab x0 8 := slab_eq x0 8 _
    have e9 : k0_pay11 (View.ld x0 r0_9) = slab x0 9 := slab_eq x0 9 _
    have e10 : k0_pay12 (View.ld x0 r0_10) = slab x0 10 := slab_eq x0 10 _
    have e11 : k0_pay13 (View.ld x0 r0_11) = slab x0 11 := slab_eq x0 11 _
    have e12 : k0_pay14 (View.ld x0 r0_12) = slab x0 12 := slab_eq x0 12 _
    have e13 : k0_pay15 (View.ld x0 r0_13) = slab x0 13 := slab_eq x0 13 _
    rw [e0, e1, e2, e3, e4, e5, e6, e7, e8, e9, e10, e11, e12, e13]
    unfold k0_pay1
    dsimp only
    have e14 : (truncf .bf16 (k0_pay16 (View.ld x0 r0_14)) bitsLt_bf16_f32 : FVec Ideal S196x512 .bf16) = slab x0 14 := slab_eq x0 14 _
    have e15 := slab_eq x0 15 inb_S1x16x512x196_S1x1x512x196_0_15_0_0
    rw [e14]
    erw [e15]
    rfl
  rw [e]
  refine (shapeCast_ab_1ab_apply _ _ 0 p c).trans ?_
  refine (concatenate_ofFn_apply (t := S3136x512) (s₁ := S196x512) 0 (slab x0) _ rfl 196 rfl (ix2 p c) n ?_ (ix2 q c) ?_ ?_).trans rfl
  · show p.val / 196 = n.val; omega
  · show q.val = p.val % 196; omega
  · intro b hb
    fin_cases b
    · exact absurd rfl hb
    · rfl

variable (m : (ℓ : Loc nD τ sig) → Buf (Elt Ideal) ℓ) (ρ : Dev nD → PrngReg) (c : Dev nD)

theorem idx0_0 : ∀ t : Fin cfg0.N, win0_0.index t = ![(grid0.coords t 0).val, 0, 0, 0] := (by decide +kernel : ∀ t : Fin grid0.N, _)
theorem idx0_1 : ∀ t : Fin cfg0.N, win0_1.index t = ![(grid0.coords t 0).val, 0, 0] := (by decide +kernel : ∀ t : Fin grid0.N, _)

/-- The first region's result: pixel `196·b + q` of input `i` by channels. -/
def xtG (X : Vec Ideal S2x16x512x196 .f32) : Vec Ideal S2x3136x512 .bf16 := fun y =>
  X (ix4 (y 0) ⟨(y 1).val / 196, by have := (y 1).isLt; show _ < 16; have h : (y 1).val < 3136 := this; omega⟩ (y 2)
    ⟨(y 1).val % 196, Nat.mod_lt _ (by decide)⟩)

theorem region0 : W2 m ρ c main_v5 = xtG (W1 m ρ c main_v4) := by
  refine (W2_arr m ρ c 1).trans ?_
  refine (dat0 (V1 m ρ) c).arrAt_eq_of_covers 1 _ (by decide +kernel) fun t hf y => ?_
  blk_simp
  rw [after0_1]
  obtain ⟨u, p, ch, rfl⟩ : ∃ (u : Fin 1) (p : Fin 3136) (ch : Fin 512), y = ix3 u p ch := ⟨y 0, y 1, y 2, by funext a; fin_cases a <;> rfl⟩
  obtain rfl : u = 0 := Subsingleton.elim _ _
  refine (out0_apply _ ⟨p.val / 196, by omega⟩ ⟨p.val % 196, by omega⟩ ch p (by show _ = p.val / 196 * 196 + p.val % 196; omega)).trans ?_
  unfold xtG
  blk_simp [iblk0, idx0_0, idx0_1]
  refine congrArg (W1 m ρ c main_v4) ?_
  blk_ext [idx0_0, idx0_1]
  · show _ = ((((View.whole main_v5).slice (win0_1.rect t)).emb (ix3 0 p ch) 0 : Fin _) : ℕ)
    blk_simp [idx0_1]
  · show ch.val = ((((View.whole main_v5).slice (win0_1.rect t)).emb (ix3 0 p ch) 2 : Fin _) : ℕ)
    blk_simp [idx0_1]
    rfl

/-- The two inputs, pixels joined, stacked. -/
def stackX (a b : Vec Ideal S16x512x14x14 .f32) : Vec Ideal S2x16x512x196 .f32 :=
  concatenate S2x16x512x196 0 [⟨S1x16x512x196, broadcastInDim S1x16x512x196 ![1, 2, 3] bcast_S16x512x196_S1x16x512x196_1_2_3
      (shapeCast S16x512x196 a shapeCasts_S16x512x14x14_S16x512x196)⟩,
    ⟨S1x16x512x196, broadcastInDim S1x16x512x196 ![1, 2, 3] bcast_S16x512x196_S1x16x512x196_1_2_3
      (shapeCast S16x512x196 b shapeCasts_S16x512x14x14_S16x512x196)⟩] concatenates_S1x16x512x196_S1x16x512x196_S2x16x512x196_d0

theorem ops0_v4 (V : Valuation τ sig (Elt Ideal)) :
    StableHlo.after hostOps0 V (main_v4 : DevRef τ sig) = stackX (V main_arg0) (V main_arg1) := by
  after_results; rfl

theorem stackX_apply (a b : Vec Ideal S16x512x14x14 .f32) (n : Fin 16) (ch : Fin 512) (h w : Fin 14) (q : Fin 196)
    (hq : q.val = h.val * 14 + w.val) :
    stackX a b (ix4 0 n ch q) = a (ix4 n ch h w) ∧ stackX a b (ix4 1 n ch q) = b (ix4 n ch h w) := by
  have hc : ∀ x : Vec Ideal S16x512x14x14 .f32, broadcastInDim S1x16x512x196 ![1, 2, 3] bcast_S16x512x196_S1x16x512x196_1_2_3
      (shapeCast S16x512x196 x shapeCasts_S16x512x14x14_S16x512x196) (ix4 0 n ch q) = x (ix4 n ch h w) := fun x =>
    (bc_lead _ _ _ _ _ _).trans (cast_abcd x _ n ch h w q rfl hq)
  constructor
  · refine (concatenate_pair_apply_left (t := S2x16x512x196) (s₁ := S1x16x512x196) (s₂ := S1x16x512x196) 0 _ _ _ (ix4 0 n ch q)
      rfl (ix4 0 n ch q) fun b' => ?_).trans (hc a)
    fin_cases b' <;> rfl
  · refine (concatenate_pair_apply_right (t := S2x16x512x196) (s₁ := S1x16x512x196) (s₂ := S1x16x512x196) 0 _ _ _ (ix4 1 n ch q)
      rfl rfl (ix4 0 n ch q) (fun b' hb => ?_) ?_).trans (hc b)
    · fin_cases b'
      · exact absurd rfl hb
      all_goals rfl
    · rfl

/-- The first region's result from the arguments. -/
theorem xt_apply (n : Fin 16) (h w : Fin 14) (ch : Fin 512) (p : Fin 3136) (hp : p.val = (n.val * 14 + h.val) * 14 + w.val) :
    (W2 m ρ c main_v5 : Vec Ideal S2x3136x512 .bf16) (ix3 0 p ch) = (m ((c : Thread nD τ).loc main_arg0) : Vec Ideal S16x512x14x14 .f32) (ix4 n ch h w)
      ∧ (W2 m ρ c main_v5 : Vec Ideal S2x3136x512 .bf16) (ix3 1 p ch) = (m ((c : Thread nD τ).loc main_arg1) : Vec Ideal S16x512x14x14 .f32) (ix4 n ch h w) := by
  have e : W1 m ρ c main_v4 = stackX (m ((c : Thread nD τ).loc main_arg0)) (m ((c : Thread nD τ).loc main_arg1)) := ops0_v4 _
  have hn : p.val / 196 = n.val := by omega
  rw [region0, e]
  have := stackX_apply (m ((c : Thread nD τ).loc main_arg0)) (m ((c : Thread nD τ).loc main_arg1)) ⟨p.val / 196, by omega⟩ ch h w
    ⟨p.val % 196, Nat.mod_lt _ (by decide)⟩ (by show p.val % 196 = _; omega)
  have hn' : (⟨p.val / 196, by omega⟩ : Fin 16) = n := Fin.ext hn
  rw [hn'] at this
  unfold xtG
  have e1 : ∀ i : Fin 2, (ix4 ((ix3 i p ch : S2x3136x512.Idx) 0) ⟨p.val / 196, by omega⟩ ch ⟨p.val % 196, Nat.mod_lt _ (by decide)⟩ : S2x16x512x196.Idx)
      = ix4 i n ch ⟨p.val % 196, Nat.mod_lt _ (by decide)⟩ := fun i => by rw [hn']
  constructor
  · exact (congrArg (stackX _ _) (e1 0)).trans this.1
  · exact (congrArg (stackX _ _) (e1 1)).trans this.2

end Cert.Bilin

end
-- ==== Proof.Spectrum.lean ====
/- The equation over the reals: the three-stage transform of the product of two sketches' spectra is 8192 times
   their circular convolution. -/
module

public import Mathlib.Analysis.SpecialFunctions.Complex.Log
public import Mathlib.Algebra.Field.GeomSum
public import Mathlib.Data.Complex.BigOperators
public import Mathlib.Logic.Equiv.Fin.Basic

@[expose] public section

noncomputable section

namespace Cert.Bilin

open Complex Finset

/-- The circle's point at `t` steps of 2π/8192. -/
def E (t : ℤ) : ℂ := Complex.exp (((2 * Real.pi / 8192 * t : ℝ) : ℂ) * I)

theorem E_add (s t : ℤ) : E (s + t) = E s * E t := by
  unfold E; rw [← Complex.exp_add]; congr 1; push_cast; ring

theorem E_period (t : ℤ) : E (8192 * t) = 1 := by
  unfold E
  rw [show (((2 * Real.pi / 8192 * ((8192 * t : ℤ) : ℝ) : ℝ) : ℂ) * I) = t * (2 * Real.pi * I) by push_cast; ring]
  exact Complex.exp_int_mul_two_pi_mul_I t

theorem E_zero : E 0 = 1 := by simpa using E_period 0

theorem E_nat_mul (K : ℕ) (t : ℤ) : E (K * t) = E t ^ K := by
  unfold E; rw [← Complex.exp_nat_mul]; congr 1; push_cast; ring

theorem E_eq_one_iff (t : ℤ) : E t = 1 ↔ (8192 : ℤ) ∣ t := by
  constructor
  · intro h
    unfold E at h
    rw [Complex.exp_eq_one_iff] at h
    obtain ⟨n, hn⟩ := h
    refine ⟨n, ?_⟩
    have hpi : (Real.pi : ℂ) ≠ 0 := by exact_mod_cast Real.pi_ne_zero
    have h2 : ((t : ℤ) : ℂ) = ((8192 * n : ℤ) : ℂ) := by
      push_cast at hn ⊢
      have : (2 * Real.pi * I : ℂ) * (t - 8192 * n) = 0 := by linear_combination 8192 * hn
      rcases mul_eq_zero.mp this with h | h
      · exact absurd h Complex.two_pi_I_ne_zero
      · linear_combination h
    exact_mod_cast h2
  · rintro ⟨n, rfl⟩; exact E_period n

/-- The characters' sum: 8192 at a multiple of the period, zero elsewhere. -/
theorem sum_E (t : ℤ) : ∑ K ∈ range 8192, E (K * t) = if (8192 : ℤ) ∣ t then 8192 else 0 := by
  simp_rw [E_nat_mul]
  split_ifs with h
  · rw [(E_eq_one_iff t).mpr h]; simp
  · have hne : E t ≠ 1 := fun h' => h ((E_eq_one_iff t).mp h')
    rw [geom_sum_eq hne, ← E_nat_mul]
    rw [show ((8192 : ℕ) : ℤ) * t = 8192 * t by norm_num, E_period]; simp

/-- The frequencies as pairs: `K = k + 64 l`. -/
theorem sum_pairs (f : ℕ → ℂ) : ∑ k : Fin 64, ∑ l : Fin 128, f (k.val + 64 * l.val) = ∑ K ∈ range 8192, f K := by
  rw [← Fin.sum_univ_eq_sum_range]
  rw [← (finProdFinEquiv (m := 128) (n := 64)).sum_comp, Fintype.sum_prod_type, Finset.sum_comm]
  rfl

/-! The kernel's stages over the reals. -/

/-- Real part of a projection matrix entry, for a row of sign `s` and position `h`. -/
def wre (s : ℝ) (h : ℕ) (k l : ℕ) : ℝ :=
  Real.cos (2 * Real.pi / 8192 * h * k) * s * Real.cos (2 * Real.pi / 128 * ((h % 128 : ℕ) : ℝ) * l)
    - Real.sin (2 * Real.pi / 8192 * h * k) * s * Real.sin (2 * Real.pi / 128 * ((h % 128 : ℕ) : ℝ) * l)

/-- Imaginary part of a projection matrix entry. -/
def wim (s : ℝ) (h : ℕ) (k l : ℕ) : ℝ :=
  -(Real.sin (2 * Real.pi / 8192 * h * k) * s * Real.cos (2 * Real.pi / 128 * ((h % 128 : ℕ) : ℝ) * l)
    + Real.cos (2 * Real.pi / 8192 * h * k) * s * Real.sin (2 * Real.pi / 128 * ((h % 128 : ℕ) : ℝ) * l))

theorem w_angle (h k l : ℕ) : Complex.exp (((2 * Real.pi / 8192 * h * k : ℝ) : ℂ) * I)
      * Complex.exp (((2 * Real.pi / 128 * ((h % 128 : ℕ) : ℝ) * l : ℝ) : ℂ) * I) = E (h * (k + 64 * l)) := by
  have hd : (h : ℤ) = 128 * (h / 128 : ℕ) + (h % 128 : ℕ) := by exact_mod_cast (Nat.div_add_mod h 128).symm
  generalize h % 128 = r at hd ⊢
  generalize h / 128 = q at hd
  have e : ((h : ℤ) * (k + 64 * l)) = (h * k + 64 * (r * l)) + 8192 * (q * l) := by
    linear_combination 64 * (l : ℤ) * hd
  rw [e, E_add, E_period, mul_one, ← Complex.exp_add]
  unfold E
  congr 1; push_cast; ring

/-- A matrix entry is `s` times the conjugate circle point of `h (k + 64 l)`. -/
theorem w_eq (s : ℝ) (h k l : ℕ) : (⟨wre s h k l, wim s h k l⟩ : ℂ) = s * E (-(h * (k + 64 * l))) := by
  have hinv : E (-(h * (k + 64 * l) : ℤ)) = (starRingEnd ℂ) (E (h * (k + 64 * l))) := by
    unfold E; rw [← Complex.exp_conj, map_mul, Complex.conj_I, Complex.conj_ofReal]; congr 1; push_cast; ring
  rw [hinv, ← w_angle]
  apply Complex.ext
  · simp only [map_mul, Complex.mul_re, Complex.mul_im, Complex.conj_re, Complex.conj_im, Complex.ofReal_re,
      Complex.ofReal_im, Complex.exp_ofReal_mul_I_re, Complex.exp_ofReal_mul_I_im, wre]; ring
  · simp only [map_mul, Complex.mul_re, Complex.mul_im, Complex.conj_re, Complex.conj_im, Complex.ofReal_re,
      Complex.ofReal_im, Complex.exp_ofReal_mul_I_re, Complex.exp_ofReal_mul_I_im, wim]; ring

theorem exp_pair (θ : ℝ) : Complex.exp ((θ : ℂ) * I) = ⟨Real.cos θ, Real.sin θ⟩ :=
  Complex.ext (Complex.exp_ofReal_mul_I_re θ) (Complex.exp_ofReal_mul_I_im θ)

section Stages
variable (b1re b1im b2re b2im : ℕ → ℕ → ℝ)

def fre (k l : ℕ) : ℝ := b1re k l * b2re k l - b1im k l * b2im k l
def fim (k l : ℕ) : ℝ := b1re k l * b2im k l + b1im k l * b2re k l
def c128 (l n : ℕ) : ℝ := Real.cos (2 * Real.pi / 128 * (l * n))
def s128 (l n : ℕ) : ℝ := Real.sin (2 * Real.pi / 128 * (l * n))
def cD (k n : ℕ) : ℝ := Real.cos (2 * Real.pi / 8192 * (k * n))
def sD (k n : ℕ) : ℝ := Real.sin (2 * Real.pi / 8192 * (k * n))
def c64 (a k : ℕ) : ℝ := Real.cos (2 * Real.pi / 64 * (a * k))
def s64 (a k : ℕ) : ℝ := Real.sin (2 * Real.pi / 64 * (a * k))

def p1re (k n : ℕ) : ℝ :=
  ∑ l : Fin 128, fre b1re b1im b2re b2im k l * c128 l n - ∑ l : Fin 128, fim b1re b1im b2re b2im k l * s128 l n
def p1im (k n : ℕ) : ℝ :=
  ∑ l : Fin 128, fre b1re b1im b2re b2im k l * s128 l n + ∑ l : Fin 128, fim b1re b1im b2re b2im k l * c128 l n
def p2re (k n : ℕ) : ℝ := p1re b1re b1im b2re b2im k n * cD k n - p1im b1re b1im b2re b2im k n * sD k n
def p2im (k n : ℕ) : ℝ := p1re b1re b1im b2re b2im k n * sD k n + p1im b1re b1im b2re b2im k n * cD k n

/-- The transform's value at the output index `128 a + n`. -/
def outv (a n : ℕ) : ℝ :=
  ∑ k : Fin 64, c64 a k * p2re b1re b1im b2re b2im k n - ∑ k : Fin 64, s64 a k * p2im b1re b1im b2re b2im k n

theorem outv_eq (a n : ℕ) : outv b1re b1im b2re b2im a n
    = (∑ k : Fin 64, ∑ l : Fin 128, ((⟨b1re k l, b1im k l⟩ : ℂ) * (⟨b2re k l, b2im k l⟩ : ℂ))
        * E ((((k.val + 64 * l.val : ℕ) : ℤ)) * ((128 * a + n : ℕ) : ℤ))).re := by
  have hE : ∀ (k : Fin 64) (l : Fin 128), E ((((k.val + 64 * l.val : ℕ) : ℤ)) * ((128 * a + n : ℕ) : ℤ))
      = (⟨c128 l n, s128 l n⟩ : ℂ) * ((⟨cD k n, sD k n⟩ : ℂ) * (⟨c64 a k, s64 a k⟩ : ℂ)) := by
    intro k l
    rw [show (((k.val + 64 * l.val : ℕ) : ℤ)) * ((128 * a + n : ℕ) : ℤ)
      = (64 * (l.val * n) + k.val * n + 128 * (a * k.val)) + 8192 * (l.val * a) by push_cast; ring,
      E_add, E_period, mul_one]
    unfold c128 s128 cD sD c64 s64
    rw [← exp_pair, ← exp_pair, ← exp_pair, ← Complex.exp_add, ← Complex.exp_add]
    unfold E
    congr 1; push_cast; ring
  have hF : ∀ k l : ℕ, (⟨b1re k l, b1im k l⟩ : ℂ) * (⟨b2re k l, b2im k l⟩ : ℂ)
      = ⟨fre b1re b1im b2re b2im k l, fim b1re b1im b2re b2im k l⟩ := fun k l => by
    apply Complex.ext <;> simp [fre, fim]
  simp_rw [hE, hF, ← mul_assoc]
  simp_rw [← Finset.sum_mul]
  rw [Complex.re_sum]
  unfold outv
  rw [← Finset.sum_sub_distrib]
  refine Finset.sum_congr rfl fun k _ => ?_
  simp only [Complex.mul_re, Complex.mul_im, Complex.re_sum, Complex.im_sum, p2re, p2im, p1re, p1im,
    Finset.sum_add_distrib, Finset.sum_sub_distrib]
  ring

end Stages

section Main
variable (x1 x2 s1 s2 : Fin 512 → ℝ) (h1 h2 : Fin 512 → ℕ)

/-- A pixel's projection, real part. -/
def bre (x s : Fin 512 → ℝ) (h : Fin 512 → ℕ) (k l : ℕ) : ℝ := ∑ c, x c * wre (s c) (h c) k l
/-- A pixel's projection, imaginary part. -/
def bim (x s : Fin 512 → ℝ) (h : Fin 512 → ℕ) (k l : ℕ) : ℝ := ∑ c, x c * wim (s c) (h c) k l

theorem b_eq (x s : Fin 512 → ℝ) (h : Fin 512 → ℕ) (k l : ℕ) :
    (⟨bre x s h k l, bim x s h k l⟩ : ℂ) = ∑ c, (x c : ℂ) * (s c * E (-(h c * (k + 64 * l)))) := by
  simp_rw [← w_eq]
  apply Complex.ext
  · simp [bre, Complex.re_sum]
  · simp [bim, Complex.im_sum]

/-- What the kernel computes: 8192 times the sum of the products over the channel pairs whose positions add up to
    the output index modulo 8192. -/
theorem outv_pairs (a n : ℕ) :
    outv (bre x1 s1 h1) (bim x1 s1 h1) (bre x2 s2 h2) (bim x2 s2 h2) a n
      = 8192 * ∑ c, ∑ e, x1 c * s1 c * (x2 e * s2 e)
          * (if (8192 : ℤ) ∣ ((128 * a + n : ℕ) : ℤ) - h1 c - h2 e then 1 else 0) := by
  rw [outv_eq]
  simp_rw [b_eq]
  have : ∀ (k : Fin 64) (l : Fin 128),
      (∑ c, (x1 c : ℂ) * (s1 c * E (-(h1 c * (k.val + 64 * l.val)))))
        * (∑ c, (x2 c : ℂ) * (s2 c * E (-(h2 c * (k.val + 64 * l.val)))))
        * E ((((k.val + 64 * l.val : ℕ) : ℤ)) * ((128 * a + n : ℕ) : ℤ))
      = ∑ c, ∑ e, ((x1 c * s1 c * (x2 e * s2 e) : ℝ) : ℂ)
          * E ((((k.val + 64 * l.val : ℕ) : ℤ)) * (((128 * a + n : ℕ) : ℤ) - h1 c - h2 e)) := by
    intro k l
    rw [Finset.sum_mul_sum, Finset.sum_mul]
    refine Finset.sum_congr rfl fun c _ => ?_
    rw [Finset.sum_mul]
    refine Finset.sum_congr rfl fun e _ => ?_
    rw [show (((k.val + 64 * l.val : ℕ) : ℤ)) * (((128 * a + n : ℕ) : ℤ) - h1 c - h2 e)
      = (-(h1 c * (k.val + 64 * l.val)) + -(h2 e * (k.val + 64 * l.val)))
        + ((k.val + 64 * l.val : ℕ) : ℤ) * ((128 * a + n : ℕ) : ℤ) by push_cast; ring, E_add, E_add]
    push_cast; ring
  simp_rw [this]
  rw [sum_pairs (fun K => ∑ c, ∑ e, ((x1 c * s1 c * (x2 e * s2 e) : ℝ) : ℂ)
          * E ((K : ℤ) * (((128 * a + n : ℕ) : ℤ) - h1 c - h2 e)))]
  rw [Finset.sum_comm]
  rw [Complex.re_sum, Finset.mul_sum]
  refine Finset.sum_congr rfl fun c _ => ?_
  rw [Finset.sum_comm, Complex.re_sum, Finset.mul_sum]
  refine Finset.sum_congr rfl fun e _ => ?_
  rw [← Finset.mul_sum, sum_E, Complex.re_ofReal_mul]
  split_ifs <;> simp
  ring

/-- A count sketch of one pixel: its entry at `j`. -/
def sk (x s : Fin 512 → ℝ) (h : Fin 512 → ℕ) (j : ℕ) : ℝ := ∑ c, x c * (if h c = j then s c else 0)

/-- The circular convolution, as a sum over the same channel pairs. -/
theorem conv_pairs (hh1 : ∀ c, h1 c < 8192) (hh2 : ∀ c, h2 c < 8192) (d : ℕ) (hd : d < 8192) :
    ∑ j ∈ range 8192, sk x1 s1 h1 j * sk x2 s2 h2 ((8192 - j + d) % 8192)
      = ∑ c, ∑ e, x1 c * s1 c * (x2 e * s2 e) * (if (8192 : ℤ) ∣ (d : ℤ) - h1 c - h2 e then 1 else 0) := by
  simp_rw [sk, Finset.sum_mul_sum]
  rw [Finset.sum_comm]
  refine Finset.sum_congr rfl fun c _ => ?_
  rw [Finset.sum_comm]
  refine Finset.sum_congr rfl fun e _ => ?_
  rw [Finset.sum_eq_single (h1 c)]
  · rw [if_pos rfl]
    have : h2 e = (8192 - h1 c + d) % 8192 ↔ (8192 : ℤ) ∣ (d : ℤ) - h1 c - h2 e := by
      have := hh1 c; have := hh2 e
      omega
    simp only [this]
    split_ifs <;> ring
  · intro j _ hj; rw [if_neg (Ne.symm hj)]; ring
  · intro h; exact absurd (mem_range.mpr (hh1 c)) h

/-- The transform of the product of the spectra is 8192 times the circular convolution. -/
theorem outv_conv (hh1 : ∀ c, h1 c < 8192) (hh2 : ∀ c, h2 c < 8192) (a n : ℕ) (hd : 128 * a + n < 8192) :
    outv (bre x1 s1 h1) (bim x1 s1 h1) (bre x2 s2 h2) (bim x2 s2 h2) a n
      = (∑ j ∈ range 8192, sk x1 s1 h1 j * sk x2 s2 h2 ((8192 - j + (128 * a + n)) % 8192)) * 8192 := by
  rw [outv_pairs, conv_pairs x1 x2 s1 s2 h1 h2 hh1 hh2 _ hd, mul_comm]

end Main

end Cert.Bilin

end
-- ==== Proof.Fold.lean ====
/- One count-sketch matrix folded into angles: the terms the kernel's host code computes from a matrix, and what
   each holds when every row has one entry, a sign. -/
module

public import proofs.«01_k».proof.Proof.Gen.KernelIdeal.Launch
public import proofs.«01_k».proof.Proof.Read
public import proofs.«01_k».proof.Proof.Spectrum
public import Idealize.ShloMosaic.Lib.Claim

@[expose] public section

noncomputable section

namespace Cert.Bilin

open Idealize.ShloMosaic Idealize.ShloMosaic.ValueIdx Cert.KernelIdeal Cert.KernelIdeal.Gen

/-- Row `c` of the matrix holds the sign `s c` at position `h c` and zeros elsewhere. -/
structure IsSketch (S : FVec Ideal S512x8192 .f32) (s : Fin 512 → ℝ) (h : Fin 512 → ℕ) : Prop where
  sign : ∀ c, s c = 1 ∨ s c = -1
  pos : ∀ c, h c < 8192
  entry : ∀ c j, S (ix2 c j) = ((if h c = j.val then s c else 0 : ℝ) : EReal)

/-- 2π, as the host computes it. -/
def tauT : FVec Ideal S_ .f32 :=
  mulf (constant S_ .f32 0x40000000#32) (Host.atan2 (constant S_ .f32 0x00000000#32) (constant S_ .f32 0xBF800000#32))

/-- 0, 1, 2, … along the one axis. -/
def iotaT (s : Shape) (d : Fin s.rank) : FVec Ideal s .f32 := sitofp .f32 (iotaInDim s 32 d)

/-- The rows' sums. -/
def sgnT (S : FVec Ideal S512x8192 .f32) : FVec Ideal S512 .f32 :=
  Host.reduceAdd S (constant S_ .f32 0x00000000#32) reducesTo_S512x8192_S512_d1 h_S_

/-- The rows' positions: the sum times the sum weighted by the column number. -/
def posT (S : FVec Ideal S512x8192 .f32) : FVec Ideal S512 .f32 :=
  mulf (sgnT S) (Host.reduceAdd (mulf S (broadcastInDim S512x8192 ![0, 1] bcast_S1x8192_S512x8192_0_1
    (broadcastInDim S1x8192 ![1] bcast_S8192_S1x8192_1 (iotaT S8192 0)))) (constant S_ .f32 0x00000000#32)
    reducesTo_S512x8192_S512_d1 h_S_)

/-- The angles 2π/8192 · h · k. -/
def angA (h : FVec Ideal S512 .f32) (k : FVec Ideal S64 .f32) : FVec Ideal S512x64 .f32 :=
  mulf (broadcastInDim S512x64 ![0, 1] bcast_S512x1_S512x64_0_1
      (mulf (broadcastInDim S512x1 ![] bcast_S_S512x1 (Host.divf tauT (constant S_ .f32 0x46000000#32)))
        (broadcastInDim S512x1 ![0] bcast_S512_S512x1_0 h)))
    (broadcastInDim S512x64 ![0, 1] bcast_S1x64_S512x64_0_1 (broadcastInDim S1x64 ![1] bcast_S64_S1x64_1 k))

/-- The angles w · r · l. -/
def angB (w : FVec Ideal S_ .f32) (r : FVec Ideal S512 .f32) (l : FVec Ideal S128 .f32) : FVec Ideal S512x128 .f32 :=
  mulf (broadcastInDim S512x128 ![0, 1] bcast_S512x1_S512x128_0_1
      (mulf (broadcastInDim S512x1 ![] bcast_S_S512x1 w) (broadcastInDim S512x1 ![0] bcast_S512_S512x1_0 r)))
    (broadcastInDim S512x128 ![0, 1] bcast_S1x128_S512x128_0_1 (broadcastInDim S1x128 ![1] bcast_S128_S1x128_1 l))

/-- A [512, 64] array times the rows' signs. -/
def signed (a : FVec Ideal S512x64 .f32) (s : FVec Ideal S512 .f32) : FVec Ideal S512x64 .f32 :=
  mulf a (broadcastInDim S512x64 ![0, 1] bcast_S512x1_S512x64_0_1 (broadcastInDim S512x1 ![0] bcast_S512_S512x1_0 s))

/-- The products a[c, k] · b[c, l]. -/
def outer (a : FVec Ideal S512x64 .f32) (b : FVec Ideal S512x128 .f32) : FVec Ideal S512x64x128 .f32 :=
  mulf (broadcastInDim S512x64x128 ![0, 1, 2] bcast_S512x64x1_S512x64x128_0_1_2
      (broadcastInDim S512x64x1 ![0, 1] bcast_S512x64_S512x64x1_0_1 a))
    (broadcastInDim S512x64x128 ![0, 1, 2] bcast_S512x1x128_S512x64x128_0_1_2
      (broadcastInDim S512x1x128 ![0, 2] bcast_S512x128_S512x1x128_0_2 b))

/-- The projection matrix's real part, from the two arrays of angles and the signs. -/
def foldRe (a : FVec Ideal S512x64 .f32) (b : FVec Ideal S512x128 .f32) (s : FVec Ideal S512 .f32) :
    FVec Ideal S512x64x128 .f32 :=
  subf (outer (signed (Host.cos a) s) (Host.cos b)) (outer (signed (Host.sin a) s) (Host.sin b))

/-- The projection matrix's imaginary part. -/
def foldIm (a : FVec Ideal S512x64 .f32) (b : FVec Ideal S512x128 .f32) (s : FVec Ideal S512 .f32) :
    FVec Ideal S512x64x128 .f32 :=
  Host.negf (addf (outer (signed (Host.sin a) s) (Host.cos b)) (outer (signed (Host.cos a) s) (Host.sin b)))

/-- The floored remainder of a vector of floats by an integer scalar, as `jnp.mod` computes it. -/
def remT (x : FVec Ideal S512 .f32) (n : IVec S_ 32) : FVec Ideal S512 .f32 :=
  let y : FVec Ideal S_ .f32 := sitofp .f32 n
  let r : FVec Ideal S512 .f32 := Host.remf x (broadcastInDim S512 ![] bcast_S_S512 y)
  let z : FVec Ideal S512 .f32 := broadcastInDim S512 ![] bcast_S_S512 (constant S_ .f32 0x00000000#32)
  select (andi (cmpi .ne (cmpf .olt r z) (broadcastInDim S512 ![] bcast_S_S512 (cmpf .olt y (constant S_ .f32 0x00000000#32))))
    (cmpf .une r z)) (addf r (broadcastInDim S512 ![] bcast_S_S512 y)) r

theorem tauT_apply (i : S_.Idx) : tauT i = ((2 * Real.pi : ℝ) : EReal) := by
  show Ideal.ofBits .f32 0x40000000#32 * Ideal.atan2 (Ideal.ofBits .f32 0x00000000#32) (Ideal.ofBits .f32 0xBF800000#32) = _
  rw [bits_two, bits_zero, bits_neg_one, atan2_pi, ← EReal.coe_mul]

theorem iotaT_apply (s : Shape) (d : Fin s.rank) (i : s.Idx) (h : (i d).val < 2 ^ 31) :
    iotaT s d i = (((i d).val : ℝ) : EReal) := by
  show (((BitVec.ofNat 32 (i d).val).toInt : ℝ) : EReal) = _
  have : (BitVec.ofNat 32 (i d).val).toInt = ((i d).val : ℤ) := by
    rw [BitVec.toInt_eq_toNat_cond, BitVec.toNat_ofNat, Nat.mod_eq_of_lt (by omega), if_pos (by omega)]
  rw [this, Int.cast_natCast]

theorem reduces_rows : S512x8192.Reduces [1] S512 := by decide

/-- A row sum of real entries. -/
theorem rowSum_apply (X : FVec Ideal S512x8192 .f32) (c : Fin 512) :
    Host.reduceAdd X (constant S_ .f32 0x00000000#32) reducesTo_S512x8192_S512_d1 h_S_ (ix1 c)
      = ∑ j : Fin 8192, X (ix2 c j) := by
  rw [hostReduceAdd_apply, Ideal.hostReduceAdd_single _ reduces_rows]
  show Ideal.ofBits .f32 0x00000000#32 + _ = _
  rw [bits_zero, EReal.coe_zero, zero_add]
  refine Finset.sum_congr rfl fun j _ => congrArg X ?_
  funext a; match a with | ⟨0, _⟩ => rfl | ⟨1, _⟩ => rfl

variable {S : FVec Ideal S512x8192 .f32} {s : Fin 512 → ℝ} {h : Fin 512 → ℕ}

theorem sgnT_apply (hS : IsSketch S s h) (c : Fin 512) : sgnT S (ix1 c) = ((s c : ℝ) : EReal) := by
  unfold sgnT; rw [rowSum_apply]
  simp_rw [hS.entry]
  rw [sum_coe, Finset.sum_eq_single (⟨h c, hS.pos c⟩ : Fin 8192)]
  · simp
  · intro j _ hj; rw [if_neg]; intro h'; exact hj (Fin.ext h'.symm)
  · simp

theorem posT_apply (hS : IsSketch S s h) (c : Fin 512) : posT S (ix1 c) = ((h c : ℝ) : EReal) := by
  show sgnT S (ix1 c) * _ = _
  rw [sgnT_apply hS, rowSum_apply]
  have : ∀ j : Fin 8192, mulf S (broadcastInDim S512x8192 ![0, 1] bcast_S1x8192_S512x8192_0_1
    (broadcastInDim S1x8192 ![1] bcast_S8192_S1x8192_1 (iotaT S8192 0))) (ix2 c j)
      = ((if h c = j.val then s c * j.val else 0 : ℝ) : EReal) := by
    intro j
    show S (ix2 c j) * broadcastInDim _ _ _ _ _ = _
    rw [bc_row, bc_toRow, iotaT_apply _ _ _ (by show j.val < _; omega), hS.entry, ← EReal.coe_mul]
    congr 1; split_ifs <;> simp
  simp_rw [this]
  rw [sum_coe, Finset.sum_eq_single (⟨h c, hS.pos c⟩ : Fin 8192)]
  · rw [if_pos rfl, ← EReal.coe_mul]
    congr 1
    rcases hS.sign c with e | e <;> rw [e] <;> ring
  · intro j _ hj; rw [if_neg]; intro h'; exact hj (Fin.ext h'.symm)
  · simp

theorem angA_apply {hv : FVec Ideal S512 .f32} {kv : FVec Ideal S64 .f32} (c : Fin 512) (k : Fin 64)
    (hh : hv (ix1 c) = ((h c : ℝ) : EReal)) (hk : kv (ix1 k) = ((k.val : ℝ) : EReal)) :
    angA hv kv (ix2 c k) = ((2 * Real.pi / 8192 * h c * k.val : ℝ) : EReal) := by
  show broadcastInDim _ _ _ _ _ * broadcastInDim _ _ _ _ _ = _
  rw [bc_col, bc_row, bc_toRow, hk]
  show (broadcastInDim _ _ _ _ _ * broadcastInDim _ _ _ _ _) * _ = _
  rw [bc_toCol, hh, broadcastInDim_scalar_apply, hostDivf_apply, tauT_apply]
  show Ideal.div _ (Ideal.ofBits .f32 0x46000000#32) * _ * _ = _
  rw [bits_8192, Ideal.div_coe (by norm_num)]
  simp only [← EReal.coe_mul]
  congr 1; ring

theorem angB_apply {w : FVec Ideal S_ .f32} {rv : FVec Ideal S512 .f32} {lv : FVec Ideal S128 .f32} (c : Fin 512)
    (l : Fin 128) (hw : w ix0 = ((2 * Real.pi / 128 : ℝ) : EReal))
    (hr : rv (ix1 c) = (((h c % 128 : ℕ) : ℝ) : EReal)) (hl : lv (ix1 l) = ((l.val : ℝ) : EReal)) :
    angB w rv lv (ix2 c l) = ((2 * Real.pi / 128 * ((h c % 128 : ℕ) : ℝ) * l.val : ℝ) : EReal) := by
  show broadcastInDim _ _ _ _ _ * broadcastInDim _ _ _ _ _ = _
  rw [bc_col, bc_row, bc_toRow, hl]
  show (broadcastInDim _ _ _ _ _ * broadcastInDim _ _ _ _ _) * _ = _
  rw [bc_toCol, hr, broadcastInDim_scalar_apply, hw]
  simp only [← EReal.coe_mul]

theorem outer_apply (a : FVec Ideal S512x64 .f32) (b : FVec Ideal S512x128 .f32) (c : Fin 512) (k : Fin 64) (l : Fin 128) :
    outer a b (ix3 c k l) = a (ix2 c k) * b (ix2 c l) := by
  show broadcastInDim _ _ _ _ _ * broadcastInDim _ _ _ _ _ = _
  rw [bc_trail3, bc_trail, bc_mid3, bc_mid]

theorem signed_apply (a : FVec Ideal S512x64 .f32) (sv : FVec Ideal S512 .f32) (c : Fin 512) (k : Fin 64) :
    signed a sv (ix2 c k) = a (ix2 c k) * sv (ix1 c) := by
  show _ * broadcastInDim _ _ _ _ _ = _
  rw [bc_col, bc_toCol]

/-- The folded matrix, from its angles and signs: `wre` and `wim`. -/
theorem fold_apply {a : FVec Ideal S512x64 .f32} {b : FVec Ideal S512x128 .f32} {sv : FVec Ideal S512 .f32}
    (c : Fin 512) (k : Fin 64) (l : Fin 128)
    (ha : a (ix2 c k) = ((2 * Real.pi / 8192 * h c * k.val : ℝ) : EReal))
    (hb : b (ix2 c l) = ((2 * Real.pi / 128 * ((h c % 128 : ℕ) : ℝ) * l.val : ℝ) : EReal))
    (hs : sv (ix1 c) = ((s c : ℝ) : EReal)) :
    foldRe a b sv (ix3 c k l) = ((wre (s c) (h c) k l : ℝ) : EReal)
      ∧ foldIm a b sv (ix3 c k l) = ((wim (s c) (h c) k l : ℝ) : EReal) := by
  constructor
  · show outer _ _ _ - outer _ _ _ = _
    rw [outer_apply, outer_apply, signed_apply, signed_apply]
    show Ideal.cos (a _) * sv _ * Ideal.cos (b _) - Ideal.sin (a _) * sv _ * Ideal.sin (b _) = _
    rw [ha, hb, hs, Ideal.cos_coe, Ideal.cos_coe, Ideal.sin_coe, Ideal.sin_coe]
    simp only [← EReal.coe_mul, ← EReal.coe_sub]; rfl
  · show -(outer _ _ _ + outer _ _ _) = _
    rw [outer_apply, outer_apply, signed_apply, signed_apply]
    show -(Ideal.sin (a _) * sv _ * Ideal.cos (b _) + Ideal.cos (a _) * sv _ * Ideal.sin (b _)) = _
    rw [ha, hb, hs, Ideal.cos_coe, Ideal.cos_coe, Ideal.sin_coe, Ideal.sin_coe]
    simp only [← EReal.coe_mul, ← EReal.coe_add, ← EReal.coe_neg]; rfl

/-- The floored remainder of a natural number by 128. -/
theorem remT_apply {x : FVec Ideal S512 .f32} (c : Fin 512) (hx : x (ix1 c) = ((h c : ℝ) : EReal)) :
    remT x (constantI S_ 32 128#32) (ix1 c) = (((h c % 128 : ℕ) : ℝ) : EReal) := by
  have hy : (sitofp .f32 (constantI S_ 32 128#32) : FVec Ideal S_ .f32) ix0 = ((128 : ℝ) : EReal) := by
    show (((128#32 : BitVec 32).toInt : ℝ) : EReal) = _
    norm_num [show (128#32 : BitVec 32).toInt = 128 from rfl]
  have hr : Host.remf x (broadcastInDim S512 ![] bcast_S_S512 (sitofp .f32 (constantI S_ 32 128#32) : FVec Ideal S_ .f32)) (ix1 c)
      = (((h c % 128 : ℕ) : ℝ) : EReal) := by
    show Ideal.remf (x (ix1 c)) (broadcastInDim _ _ _ _ _) = _
    rw [broadcastInDim_scalar_apply, hy, hx]
    show (if (128 : ℝ) = 0 then ⊥ else ((h c - 128 * (Ideal.truncInt (h c / 128) : ℝ) : ℝ) : EReal)) = _
    rw [if_neg (by norm_num)]
    congr 1
    have : Ideal.truncInt ((h c : ℝ) / 128) = ((h c / 128 : ℕ) : ℤ) := by
      unfold Ideal.truncInt
      rw [if_pos (by positivity), Int.floor_eq_iff, Int.cast_natCast]
      have e := Nat.div_add_mod (h c) 128
      have e' := Nat.mod_lt (h c) (y := 128) (by norm_num)
      have e1 : 128 * ((h c / 128 : ℕ) : ℝ) + ((h c % 128 : ℕ) : ℝ) = h c := by exact_mod_cast e
      have e2 : ((h c % 128 : ℕ) : ℝ) < 128 := by exact_mod_cast e'
      have e3 : (0 : ℝ) ≤ ((h c % 128 : ℕ) : ℝ) := Nat.cast_nonneg _
      constructor
      · rw [le_div_iff₀ (by norm_num)]; linarith
      · rw [div_lt_iff₀ (by norm_num)]; linarith
    rw [this]
    have e : ((h c : ℕ) : ℝ) = ((128 * (h c / 128) + h c % 128 : ℕ) : ℝ) := by rw [Nat.div_add_mod]
    rw [Int.cast_natCast]
    push_cast at e ⊢
    linarith
  have hz : broadcastInDim S512 ![] bcast_S_S512 (constant S_ .f32 0x00000000#32 : FVec Ideal S_ .f32) (ix1 c) = ((0 : ℝ) : EReal) := by
    rw [broadcastInDim_scalar_apply]; exact bits_zero
  have hy' : broadcastInDim S512 ![] bcast_S_S512
      (cmpf .olt (sitofp .f32 (constantI S_ 32 128#32) : FVec Ideal S_ .f32) (constant S_ .f32 0x00000000#32)) (ix1 c) = 0#1 := by
    rw [broadcastInDim_scalar_apply, cmpf_apply, hy]
    show Ideal.cmp .olt _ (Ideal.ofBits .f32 0x00000000#32) = _
    rw [bits_zero]
    simp only [Ideal.cmp, EReal.coe_lt_coe_iff]
    rw [decide_eq_false (by norm_num)]; rfl
  have hlt : FloatOps.cmpf (F := Ideal) (φ := .f32) .olt (((h c % 128 : ℕ) : ℝ) : EReal) ((0 : ℝ) : EReal) = 0#1 := by
    show Ideal.cmp .olt _ _ = _
    simp only [Ideal.cmp, EReal.coe_lt_coe_iff]
    rw [decide_eq_false (not_lt.mpr (Nat.cast_nonneg _))]; rfl
  simp only [remT]
  rw [select_apply]
  show Scalar.select (IntOp.cmpi .ne (cmpf _ _ _ (ix1 c)) (broadcastInDim _ _ _ _ (ix1 c)) &&& _) _ _ = _
  rw [hy', cmpf_apply, hr, hz, hlt]
  show Scalar.select (0#1 &&& _) _ _ = _
  rw [BitVec.zero_and]; rfl

end Cert.Bilin

end
-- ==== Proof.FoldRun.lean ====
/- What the host code between the regions leaves in its buffers. -/
module

public import proofs.«01_k».proof.Proof.Fold

@[expose] public section

set_option maxHeartbeats 1000000

noncomputable section

namespace Cert.Bilin

open Idealize.ShloMosaic Idealize.ShloMosaic.ValueIdx Idealize.ShloMosaic.TcCoe Cert.KernelIdeal Cert.KernelIdeal.Gen

variable (V : Valuation τ sig (Elt Ideal))

/-- The weights, stacked: first sketch real and imaginary, second sketch real and imaginary. -/
def stackT (a b c d : FVec Ideal S512x64x128 .f32) : FVec Ideal S4x512x64x128 .bf16 :=
  truncf .bf16 (concatenate S4x512x64x128 0 [⟨S1x512x64x128, broadcastInDim S1x512x64x128 ![1, 2, 3] bcast_S512x64x128_S1x512x64x128_1_2_3 a⟩,
    ⟨S1x512x64x128, broadcastInDim S1x512x64x128 ![1, 2, 3] bcast_S512x64x128_S1x512x64x128_1_2_3 b⟩,
    ⟨S1x512x64x128, broadcastInDim S1x512x64x128 ![1, 2, 3] bcast_S512x64x128_S1x512x64x128_1_2_3 c⟩,
    ⟨S1x512x64x128, broadcastInDim S1x512x64x128 ![1, 2, 3] bcast_S512x64x128_S1x512x64x128_1_2_3 d⟩]
    concatenates_S1x512x64x128_S1x512x64x128_S1x512x64x128_S1x512x64x128_S4x512x64x128_d0) bitsLt_bf16_f32

theorem ops1_v9 : StableHlo.after hostOps1 V (main_v9 : DevRef τ sig) = sgnT (V main_arg2) := by after_results; rfl
theorem ops1_v14 : StableHlo.after hostOps1 V (main_v14 : DevRef τ sig) = posT (V main_arg2) := by after_results; rfl
theorem ops1_v6 : StableHlo.after hostOps1 V (main_v6 : DevRef τ sig) = iotaT S64 0 := by after_results; rfl
theorem ops1_v7 : StableHlo.after hostOps1 V (main_v7 : DevRef τ sig) = iotaT S128 0 := by after_results; rfl
theorem ops1_v8 : StableHlo.after hostOps1 V (main_v8 : DevRef τ sig) = iotaT S8192 0 := by after_results; rfl
theorem ops1_v24 : StableHlo.after hostOps1 V (main_v24 : DevRef τ sig) = angA (posT (V main_arg2)) (iotaT S64 0) := by
  after_results; rfl
theorem ops1_v25 : StableHlo.after hostOps1 V (main_v25 : DevRef τ sig) = Host.divf tauT (constant S_ .f32 0x43000000#32) := by
  after_results; rfl
theorem ops1_c : StableHlo.after hostOps1 V (main_c : DevRef τ sig) = constantI S_ 32 128#32 := by after_results

theorem ops11_v26 : StableHlo.after hostOps1_1 V (main_v26 : DevRef τ sig) = remT (V main_v14) (V main_c) := by
  after_results; rfl

theorem ops12_v54 : StableHlo.after hostOps1_2 V (main_v54 : DevRef τ sig)
    = foldRe (V main_v24) (angB (V main_v25) (V main_v26) (V main_v7)) (V main_v9) := by after_results; rfl
theorem ops12_v66 : StableHlo.after hostOps1_2 V (main_v66 : DevRef τ sig)
    = foldIm (V main_v24) (angB (V main_v25) (V main_v26) (V main_v7)) (V main_v9) := by after_results; rfl
theorem ops12_v67 : StableHlo.after hostOps1_2 V (main_v67 : DevRef τ sig) = sgnT (V main_arg3) := by after_results; rfl
theorem ops12_v72 : StableHlo.after hostOps1_2 V (main_v72 : DevRef τ sig)
    = mulf (sgnT (V main_arg3)) (Host.reduceAdd (mulf (V main_arg3) (broadcastInDim S512x8192 ![0, 1] bcast_S1x8192_S512x8192_0_1
    (broadcastInDim S1x8192 ![1] bcast_S8192_S1x8192_1 (V main_v8)))) (constant S_ .f32 0x00000000#32)
    reducesTo_S512x8192_S512_d1 h_S_) := by after_results; rfl
theorem ops12_v82 : StableHlo.after hostOps1_2 V (main_v82 : DevRef τ sig)
    = angA (StableHlo.after hostOps1_2 V (main_v72 : DevRef τ sig)) (V main_v6) := by after_results; rfl
theorem ops12_v83 : StableHlo.after hostOps1_2 V (main_v83 : DevRef τ sig) = Host.divf tauT (constant S_ .f32 0x43000000#32) := by
  after_results; rfl
theorem ops12_c : StableHlo.after hostOps1_2 V (main_c_13 : DevRef τ sig) = constantI S_ 32 128#32 := by after_results

theorem ops13_v84 : StableHlo.after hostOps1_3 V (main_v84 : DevRef τ sig) = remT (V main_v72) (V main_c_13) := by
  after_results; rfl

theorem ops14_v112 : StableHlo.after hostOps1_4 V (main_v112 : DevRef τ sig)
    = foldRe (V main_v82) (angB (V main_v83) (V main_v84) (V main_v7)) (V main_v67) := by after_results; rfl
theorem ops14_v124 : StableHlo.after hostOps1_4 V (main_v124 : DevRef τ sig)
    = foldIm (V main_v82) (angB (V main_v83) (V main_v84) (V main_v7)) (V main_v67) := by after_results; rfl
theorem ops14_v125 : StableHlo.after hostOps1_4 V (main_v125 : DevRef τ sig)
    = (broadcastInDim S1x512x64x128 ![1, 2, 3] bcast_S512x64x128_S1x512x64x128_1_2_3 (V main_v54) : FVec Ideal S1x512x64x128 .f32) := by
  after_results
theorem ops14_v126 : StableHlo.after hostOps1_4 V (main_v126 : DevRef τ sig)
    = (broadcastInDim S1x512x64x128 ![1, 2, 3] bcast_S512x64x128_S1x512x64x128_1_2_3 (V main_v66) : FVec Ideal S1x512x64x128 .f32) := by
  after_results
theorem ops14_v127 : StableHlo.after hostOps1_4 V (main_v127 : DevRef τ sig)
    = (broadcastInDim S1x512x64x128 ![1, 2, 3] bcast_S512x64x128_S1x512x64x128_1_2_3 (StableHlo.after hostOps1_4 V (main_v112 : DevRef τ sig)) : FVec Ideal S1x512x64x128 .f32) := by
  after_results
theorem ops14_v128 : StableHlo.after hostOps1_4 V (main_v128 : DevRef τ sig)
    = (broadcastInDim S1x512x64x128 ![1, 2, 3] bcast_S512x64x128_S1x512x64x128_1_2_3 (StableHlo.after hostOps1_4 V (main_v124 : DevRef τ sig)) : FVec Ideal S1x512x64x128 .f32) := by
  after_results

/-- The last two operations: the stacking of four arrays and its rounding. -/
abbrev stackOps : List (HloOp τ sig (Elt Ideal)) := hostOps1_4.drop 44
/-- The operations before them. -/
abbrev foldOps : List (HloOp τ sig (Elt Ideal)) := hostOps1_4.take 44

theorem ops14_split : StableHlo.after hostOps1_4 V = StableHlo.after stackOps (StableHlo.after foldOps V) := rfl

theorem stackOps_of (r : Ref sig .tc) (h1 : r ≠ main_v129) (h2 : r ≠ main_v130) :
    StableHlo.after stackOps V (Proc.devRef .tc r) = V (Proc.devRef .tc r) :=
  StableHlo.after_of_writes_sub (W := [main_v129, main_v130]) stackOps _ (StableHlo.forall_writes_sub_of_map rfl)
    (by simp [h1, h2])

theorem stackOps_v130 : StableHlo.after stackOps V (main_v130 : DevRef τ sig)
    = (truncf .bf16 (concatenate S4x512x64x128 0 [⟨S1x512x64x128, V main_v125⟩, ⟨S1x512x64x128, V main_v126⟩,
      ⟨S1x512x64x128, V main_v127⟩, ⟨S1x512x64x128, V main_v128⟩]
      concatenates_S1x512x64x128_S1x512x64x128_S1x512x64x128_S1x512x64x128_S4x512x64x128_d0) bitsLt_bf16_f32 :
      FVec Ideal S4x512x64x128 .bf16) := by
  simp only [stackOps, hostOps1_4, List.drop_succ_cons, List.drop_zero]
  rw [StableHlo.after_cons, StableHlo.after_cons, StableHlo.after_nil, StableHlo.unary_result, StableHlo.nary4_result]
  rfl

theorem ops14_v130 : StableHlo.after hostOps1_4 V (main_v130 : DevRef τ sig)
    = stackT (V main_v54) (V main_v66) (foldRe (V main_v82) (angB (V main_v83) (V main_v84) (V main_v7)) (V main_v67))
      (foldIm (V main_v82) (angB (V main_v83) (V main_v84) (V main_v7)) (V main_v67)) := by
  have e125 := ops14_v125 V
  have e126 := ops14_v126 V
  have e127 := ops14_v127 V
  have e128 := ops14_v128 V
  rw [ops14_v112] at e127
  rw [ops14_v124] at e128
  rw [ops14_split] at e125 e126 e127 e128 ⊢
  rw [stackOps_of _ _ (by decide) (by decide)] at e125 e126 e127 e128
  rw [stackOps_v130, e125, e126, e127, e128]
  rfl

end Cert.Bilin

end
-- ==== Proof.FoldVal.lean ====
/- The second region's weights: on entry the stacked array holds the two folded sketches, real and imaginary parts. -/
module

public import proofs.«01_k».proof.Proof.FoldRun
public import proofs.«01_k».proof.Proof.KRun

@[expose] public section

set_option maxHeartbeats 1000000

noncomputable section

namespace Cert.Bilin

open Idealize.ShloMosaic Idealize.ShloMosaic.ValueIdx Idealize.ShloMosaic.TcCoe Cert.KernelIdeal Cert.KernelIdeal.Gen

/-- The four arrays, each with a leading unit axis. -/
abbrev pieces (a b c d : FVec Ideal S512x64x128 .f32) : List ((s : Shape) × FVec Ideal s .f32) :=
  [⟨S1x512x64x128, broadcastInDim S1x512x64x128 ![1, 2, 3] bcast_S512x64x128_S1x512x64x128_1_2_3 a⟩,
    ⟨S1x512x64x128, broadcastInDim S1x512x64x128 ![1, 2, 3] bcast_S512x64x128_S1x512x64x128_1_2_3 b⟩,
    ⟨S1x512x64x128, broadcastInDim S1x512x64x128 ![1, 2, 3] bcast_S512x64x128_S1x512x64x128_1_2_3 c⟩,
    ⟨S1x512x64x128, broadcastInDim S1x512x64x128 ![1, 2, 3] bcast_S512x64x128_S1x512x64x128_1_2_3 d⟩]

theorem stackT_apply (a b c d : FVec Ideal S512x64x128 .f32) (i : Fin 512) (k : Fin 64) (l : Fin 128) :
    stackT a b c d (ix4 0 i k l) = a (ix3 i k l) ∧ stackT a b c d (ix4 1 i k l) = b (ix3 i k l)
      ∧ stackT a b c d (ix4 2 i k l) = c (ix3 i k l) ∧ stackT a b c d (ix4 3 i k l) = d (ix3 i k l) := by
  have key : ∀ (x : FVec Ideal S512x64x128 .f32) (n : Fin 4) (hn : n.val < 4)
      (hx : (pieces a b c d)[n.val]
        = ⟨S1x512x64x128, broadcastInDim S1x512x64x128 ![1, 2, 3] bcast_S512x64x128_S1x512x64x128_1_2_3 x⟩),
      stackT a b c d (ix4 n i k l) = x (ix3 i k l) := by
    intro x n hn hx
    show concatenate S4x512x64x128 0 (pieces a b c d) concatenates_S1x512x64x128_S1x512x64x128_S1x512x64x128_S1x512x64x128_S4x512x64x128_d0 (ix4 n i k l) = _
    refine (concatenate_apply_piece (t := S4x512x64x128) 0 (pieces a b c d)
      concatenates_S1x512x64x128_S1x512x64x128_S1x512x64x128_S1x512x64x128_S4x512x64x128_d0 (ix4 n i k l) n.val (by exact hn) S1x512x64x128 _ hx rfl n.val ?_
      (ix4 0 i k l) ?_ ?_).trans (bc_lead _ _ _ _ _ _)
    · fin_cases n <;> rfl
    · intro b' hb'
      fin_cases b'
      · exact absurd rfl hb'
      all_goals rfl
    · show n.val + 0 = n.val; omega
  exact ⟨key a 0 (by decide) rfl, key b 1 (by decide) rfl, key c 2 (by decide) rfl, key d 3 (by decide) rfl⟩

variable (m : (ℓ : Loc nD τ sig) → Buf (Elt Ideal) ℓ) (ρ : Dev nD → PrngReg) (c : Dev nD)

theorem chain1 (r : Ref sig .tc) (h7 : r ∉ hostOps1_3_W) (h6 : r ∉ hostOps1_2_W) (h5 : r ∉ hostOps1_1_W) :
    W6 m ρ c (Proc.devRef .tc r) = W3 m ρ c (Proc.devRef .tc r) := by
  rw [W6_of m ρ c r h7, W5_of m ρ c r h6, W4_of m ρ c r h5]

/-- The second region's weights, from the two sketches. -/
theorem weights {s1 s2 : Fin 512 → ℝ} {h1 h2 : Fin 512 → ℕ}
    (H1 : IsSketch (m ((c : Thread nD τ).loc main_arg2)) s1 h1) (H2 : IsSketch (m ((c : Thread nD τ).loc main_arg3)) s2 h2)
    (i : Fin 512) (k : Fin 64) (l : Fin 128) :
    (W7 m ρ c main_v130 : FVec Ideal S4x512x64x128 .bf16) (ix4 0 i k l) = ((wre (s1 i) (h1 i) k l : ℝ) : EReal)
      ∧ (W7 m ρ c main_v130 : FVec Ideal S4x512x64x128 .bf16) (ix4 1 i k l) = ((wim (s1 i) (h1 i) k l : ℝ) : EReal)
      ∧ (W7 m ρ c main_v130 : FVec Ideal S4x512x64x128 .bf16) (ix4 2 i k l) = ((wre (s2 i) (h2 i) k l : ℝ) : EReal)
      ∧ (W7 m ρ c main_v130 : FVec Ideal S4x512x64x128 .bf16) (ix4 3 i k l) = ((wim (s2 i) (h2 i) k l : ℝ) : EReal) := by
  have a2 : W2 m ρ c main_arg2 = m ((c : Thread nD τ).loc main_arg2) := W2_args m ρ c _ (by decide)
  have a3 : W4 m ρ c main_arg3 = m ((c : Thread nD τ).loc main_arg3) := W4_args m ρ c _ (by decide)
  -- the constants and the position numbers
  have v6 : W4 m ρ c main_v6 = iotaT S64 0 := (W4_of m ρ c main_v6 (by decide)).trans (ops1_v6 _)
  have v7 : W4 m ρ c main_v7 = iotaT S128 0 := (W4_of m ρ c main_v7 (by decide)).trans (ops1_v7 _)
  have v8 : W4 m ρ c main_v8 = iotaT S8192 0 := (W4_of m ρ c main_v8 (by decide)).trans (ops1_v8 _)
  have v7' : W6 m ρ c main_v7 = iotaT S128 0 :=
    (W6_of m ρ c main_v7 (by decide)).trans ((W5_of m ρ c main_v7 (by decide)).trans v7)
  have i64 : (iotaT S64 0 : FVec Ideal S64 .f32) (ix1 k) = ((k.val : ℝ) : EReal) :=
    iotaT_apply _ _ _ (by show k.val < _; omega)
  have i128 : (iotaT S128 0 : FVec Ideal S128 .f32) (ix1 l) = ((l.val : ℝ) : EReal) :=
    iotaT_apply _ _ _ (by show l.val < _; omega)
  have wt : (Host.divf tauT (constant S_ .f32 0x43000000#32) : FVec Ideal S_ .f32) ix0 = ((2 * Real.pi / 128 : ℝ) : EReal) := by
    rw [hostDivf_apply, tauT_apply]
    show Ideal.div _ (Ideal.ofBits .f32 0x43000000#32) = _
    rw [bits_128, Ideal.div_coe (by norm_num), ← EReal.coe_mul]
    congr 1; ring
  -- the first sketch
  have v9 : W4 m ρ c main_v9 = sgnT (m ((c : Thread nD τ).loc main_arg2)) :=
    (W4_of m ρ c main_v9 (by decide)).trans ((ops1_v9 _).trans (by rw [a2]))
  have v24 : W4 m ρ c main_v24 = angA (posT (m ((c : Thread nD τ).loc main_arg2))) (iotaT S64 0) :=
    (W4_of m ρ c main_v24 (by decide)).trans ((ops1_v24 _).trans (by rw [a2]))
  have v25 : W4 m ρ c main_v25 = Host.divf tauT (constant S_ .f32 0x43000000#32) :=
    (W4_of m ρ c main_v25 (by decide)).trans (ops1_v25 _)
  have v26 : W4 m ρ c main_v26 = remT (posT (m ((c : Thread nD τ).loc main_arg2))) (constantI S_ 32 128#32) := by
    refine (ops11_v26 _).trans ?_
    rw [show W3 m ρ c main_v14 = _ from ops1_v14 _, show W3 m ρ c main_c = _ from ops1_c _, a2]
  have A1 : W4 m ρ c main_v24 (ix2 i k) = ((2 * Real.pi / 8192 * h1 i * k.val : ℝ) : EReal) := by
    rw [v24]; exact angA_apply i k (posT_apply H1 i) i64
  have B1 : angB (W4 m ρ c main_v25) (W4 m ρ c main_v26) (W4 m ρ c main_v7) (ix2 i l)
      = ((2 * Real.pi / 128 * ((h1 i % 128 : ℕ) : ℝ) * l.val : ℝ) : EReal) := by
    rw [v25, v26, v7]; exact angB_apply i l wt (remT_apply i (posT_apply H1 i)) i128
  have S1 : W4 m ρ c main_v9 (ix1 i) = ((s1 i : ℝ) : EReal) := by rw [v9]; exact sgnT_apply H1 i
  have F1 := fold_apply i k l A1 B1 S1
  have v54 := (W6_of m ρ c main_v54 (by decide)).trans (ops12_v54 (W4 m ρ c))
  have v66 := (W6_of m ρ c main_v66 (by decide)).trans (ops12_v66 (W4 m ρ c))
  -- the second sketch
  have v72 : W5 m ρ c main_v72 = posT (m ((c : Thread nD τ).loc main_arg3)) := by
    refine (ops12_v72 _).trans ?_
    rw [v8, a3]; rfl
  have v67 : W6 m ρ c main_v67 = sgnT (m ((c : Thread nD τ).loc main_arg3)) :=
    (W6_of m ρ c main_v67 (by decide)).trans ((ops12_v67 _).trans (by rw [a3]))
  have v82 : W6 m ρ c main_v82 = angA (posT (m ((c : Thread nD τ).loc main_arg3))) (iotaT S64 0) := by
    refine (W6_of m ρ c main_v82 (by decide)).trans ((ops12_v82 _).trans ?_)
    rw [v6, show StableHlo.after hostOps1_2 (W4 m ρ c) (main_v72 : DevRef τ sig) = _ from v72]
  have v83 : W6 m ρ c main_v83 = Host.divf tauT (constant S_ .f32 0x43000000#32) :=
    (W6_of m ρ c main_v83 (by decide)).trans (ops12_v83 _)
  have v84 : W6 m ρ c main_v84 = remT (posT (m ((c : Thread nD τ).loc main_arg3))) (constantI S_ 32 128#32) := by
    refine (ops13_v84 _).trans ?_
    rw [v72, show W5 m ρ c main_c_13 = _ from ops12_c _]
  have A2 : W6 m ρ c main_v82 (ix2 i k) = ((2 * Real.pi / 8192 * h2 i * k.val : ℝ) : EReal) := by
    rw [v82]; exact angA_apply i k (posT_apply H2 i) i64
  have B2 : angB (W6 m ρ c main_v83) (W6 m ρ c main_v84) (W6 m ρ c main_v7) (ix2 i l)
      = ((2 * Real.pi / 128 * ((h2 i % 128 : ℕ) : ℝ) * l.val : ℝ) : EReal) := by
    rw [v83, v84, v7']; exact angB_apply i l wt (remT_apply i (posT_apply H2 i)) i128
  have S2 : W6 m ρ c main_v67 (ix1 i) = ((s2 i : ℝ) : EReal) := by rw [v67]; exact sgnT_apply H2 i
  have F2 := fold_apply i k l A2 B2 S2
  have T : W7 m ρ c main_v130 = _ := ops14_v130 (W6 m ρ c)
  have ap := stackT_apply (W6 m ρ c main_v54) (W6 m ρ c main_v66)
    (foldRe (W6 m ρ c main_v82) (angB (W6 m ρ c main_v83) (W6 m ρ c main_v84) (W6 m ρ c main_v7)) (W6 m ρ c main_v67))
    (foldIm (W6 m ρ c main_v82) (angB (W6 m ρ c main_v83) (W6 m ρ c main_v84) (W6 m ρ c main_v7)) (W6 m ρ c main_v67)) i k l
  rw [T]
  refine ⟨ap.1.trans ?_, ap.2.1.trans ?_, ap.2.2.1.trans F2.1, ap.2.2.2.trans F2.2⟩
  · rw [show W6 m ρ c main_v54 = _ from v54]; exact F1.1
  · rw [show W6 m ρ c main_v66 = _ from v66]; exact F1.2

end Cert.Bilin

end
-- ==== Proof.Dots.lean ====
/- The three matrix products, at an index. -/
module

public import proofs.«01_k».proof.Proof.Shapes
public import proofs.«01_k».proof.Proof.KRun

@[expose] public section

set_option maxHeartbeats 1000000

noncomputable section

namespace Cert.Bilin

open Idealize.ShloMosaic hiding ix1 ix2 ix3 ix4
open Idealize.ShloMosaic.ValueIdx Idealize.ShloMosaic.TcCoe Cert.KernelIdeal Cert.KernelIdeal.Gen

/-- Pixels by channels times channels by frequencies. -/
theorem dotP (x : FVec Ideal S3136x512 .bf16) (w : FVec Ideal S512x1024 .bf16) (z : FVec Ideal S3136x1024 .f32) (p : Fin 3136) (q : Fin 1024) :
    matmul dot_S3136x512_S512x1024_S3136x1024_1_0_0_1_n_n none x w z (ix2 p q) = z (ix2 p q) + ∑ k : Fin 512, x (ix2 p k) * w (ix2 k q) :=
  Ideal.matmul_apply₁_of dot_S3136x512_S512x1024_S3136x1024_1_0_0_1_n_n rfl rfl x w z (ix2 p q) (fun k => ix2 p k) (fun k => ix2 k q)
    (fun k => by funext a; fin_cases a <;> rfl) (fun k => by funext a; fin_cases a <;> rfl)

/-- The transform along the last axis. -/
theorem dotL (x : FVec Ideal S64x32x128 .bf16) (w : FVec Ideal S128x128 .bf16) (z : FVec Ideal S64x32x128 .f32) (a : Fin 64) (p : Fin 32) (n : Fin 128) :
    matmul dot_S64x32x128_S128x128_S64x32x128_2_0_01_1_n_n none x w z (ix3 a p n) = z (ix3 a p n) + ∑ l : Fin 128, x (ix3 a p l) * w (ix2 l n) :=
  Ideal.matmul_apply₁_of dot_S64x32x128_S128x128_S64x32x128_2_0_01_1_n_n rfl rfl x w z (ix3 a p n) (fun l => ix3 a p l) (fun l => ix2 l n)
    (fun k => by funext a; fin_cases a <;> rfl) (fun k => by funext a; fin_cases a <;> rfl)

/-- The transform along the first axis. -/
theorem dotK (w : FVec Ideal S64x64 .f32) (x : FVec Ideal S64x32x128 .f32) (z : FVec Ideal S64x32x128 .f32) (a : Fin 64) (p : Fin 32) (n : Fin 128) :
    matmul dot_S64x64_S64x32x128_S64x32x128_1_0_0_12_n_n none w x z (ix3 a p n) = z (ix3 a p n) + ∑ k : Fin 64, w (ix2 a k) * x (ix3 k p n) :=
  Ideal.matmul_apply₁_of dot_S64x64_S64x32x128_S64x32x128_1_0_0_12_n_n rfl rfl w x z (ix3 a p n) (fun k => ix2 a k) (fun k => ix3 k p n)
    (fun k => by funext a; fin_cases a <;> rfl) (fun k => by funext a; fin_cases a <;> rfl)

end Cert.Bilin

end
-- ==== Proof.Proj.lean ====
/- The second region: channels contracted against the weights, a block of eight rows at a time. -/
module

public import proofs.«01_k».proof.Proof.Dots
public import proofs.«01_k».proof.Proof.Read

@[expose] public section

set_option maxHeartbeats 1000000

noncomputable section

namespace Cert.Bilin

open Idealize.ShloMosaic hiding ix1 ix2 ix3 ix4
open Idealize.ShloMosaic.ValueIdx Idealize.ShloMosaic.TcCoe Cert.KernelIdeal Cert.KernelIdeal.Gen

/-- Row `t` of a block of weights, channels by frequencies. -/
def wslab (x1 : Vec Ideal S1x512x8x128 .bf16) (t : Fin 8) : FVec Ideal S512x128 .bf16 := fun i => x1 (ix4 0 (i 0) t (i 1))

theorem wslab_eq (x1 : Vec Ideal S1x512x8x128 .bf16) (t : Fin 8)
    (inb : ∀ a, (![0, 0, t.val, 0] : Fin 4 → ℕ) a + S1x512x1x128.size a ≤ S1x512x8x128.size a) :
    shapeCast S512x128 (View.ld (Val := Elt Ideal) x1 (Rect.unit (s := S1x512x8x128) ![0, 0, t.val, 0] S1x512x1x128.size inb) : Vec Ideal S1x512x1x128 .bf16)
      shapeCasts_S1x512x1x128_S512x128 = wslab x1 t := by
  funext i
  obtain ⟨ch, n, rfl⟩ : ∃ (ch : Fin 512) (n : Fin 128), i = ix2 ch n := ⟨i 0, i 1, by funext a; fin_cases a <;> rfl⟩
  refine (cast_1a1b_ab _ _ ch n).trans ?_
  refine View.ld_unit_apply_of _ _ _ _ _ _ fun a => ?_
  fin_cases a
  · rfl
  · show ch.val = 0 + ch.val; omega
  · rfl
  · show n.val = 0 + n.val; omega

/-- The eight rows of a block side by side. -/
def wcat (x1 : Vec Ideal S1x512x8x128 .bf16) : FVec Ideal S512x1024 .bf16 :=
  concatenate S512x1024 1 (List.ofFn fun t : Fin 8 => (⟨S512x128, wslab x1 t⟩ : (s : Shape) × (s.Idx → EReal)))
    (by exact concatenates_S512x128_S512x128_S512x128_S512x128_S512x128_S512x128_S512x128_S512x128_S512x1024_d1)

/-- One block's product: row `t`, frequency `n`, all pixels. -/
theorem pay12_apply (x0 : Vec Ideal S1x3136x512 .bf16) (x1 : Vec Ideal S1x512x8x128 .bf16) (p : Fin 3136) (t : Fin 8) (n : Fin 128)
    (q : Fin 1024) (hq : q.val = 128 * t.val + n.val) :
    (k1_pay12 x0 x1 : FVec Ideal S3136x1024 .bf16) (ix2 p q) = ∑ ch : Fin 512, x0 (ix3 0 p ch) * x1 (ix4 0 ch t n) := by
  have e : (k1_pay12 x0 x1 : FVec Ideal S3136x1024 .bf16) (ix2 p q)
      = matmul (φ₁ := .bf16) (φ₂ := .bf16) dot_S3136x512_S512x1024_S3136x1024_1_0_0_1_n_n none (shapeCast S3136x512 x0 shapeCasts_S1x3136x512_S3136x512)
        (wcat x1)
        (constant S3136x1024 .f32 0x00000000#32) (ix2 p q) := by
    unfold k1_pay12 k1_pay3
    rw [View.ld_unit_zero (by funext a; fin_cases a <;> rfl)]
    have e0 := wslab_eq x1 0 inb_S1x512x8x128_S1x512x1x128_0_0_0_0
    have e1 := wslab_eq x1 1 inb_S1x512x8x128_S1x512x1x128_0_0_1_0
    have e2 := wslab_eq x1 2 inb_S1x512x8x128_S1x512x1x128_0_0_2_0
    have e3 := wslab_eq x1 3 inb_S1x512x8x128_S1x512x1x128_0_0_3_0
    have e4 := wslab_eq x1 4 inb_S1x512x8x128_S1x512x1x128_0_0_4_0
    have e5 := wslab_eq x1 5 inb_S1x512x8x128_S1x512x1x128_0_0_5_0
    have e6 := wslab_eq x1 6 inb_S1x512x8x128_S1x512x1x128_0_0_6_0
    have e7 := wslab_eq x1 7 inb_S1x512x8x128_S1x512x1x128_0_0_7_0
    erw [e0, e1, e2, e3, e4, e5, e6, e7]
    rfl
  rw [e, dotP]
  have hz : (constant S3136x1024 .f32 0x00000000#32 : FVec Ideal S3136x1024 .f32) (ix2 p q) = 0 := bits_zero
  rw [hz, zero_add]
  refine Finset.sum_congr rfl fun ch _ => ?_
  congr 1
  · exact shapeCast_1ab_ab_apply x0 _ p ch
  · refine (concatenate_ofFn_apply (t := S512x1024) (s₁ := S512x128) 1 (wslab x1) _ rfl 128 rfl (ix2 ch q) t ?_ (ix2 ch n) ?_ ?_).trans rfl
    · show q.val / 128 = t.val; omega
    · show n.val = q.val % 128; omega
    · intro b hb
      fin_cases b
      · rfl
      · exact absurd rfl hb

/-- A slice of 128 columns with two unit axes added. -/
theorem cols_apply (v : FVec Ideal S3136x1024 .bf16) (o : ℕ) (hs : S3136x1024.Slices ![0, o] S3136x128) (x : S1x1x3136x128.Idx)
    (p : Fin 3136) (q : Fin 1024) (hp : p.val = (x 2).val) (hq : q.val = o + (x 3).val) :
    shapeCast S1x1x3136x128 (extractStridedSlice S3136x128 ![0, o] v hs) shapeCasts_S3136x128_S1x1x3136x128 x = v (ix2 p q) := by
  obtain ⟨u, u', p', n, rfl⟩ : ∃ (u u' : Fin 1) (p' : Fin 3136) (n : Fin 128), x = ix4 u u' p' n :=
    ⟨x 0, x 1, x 2, x 3, by funext a; fin_cases a <;> rfl⟩
  obtain rfl : u = 0 := Subsingleton.elim _ _
  obtain rfl : u' = 0 := Subsingleton.elim _ _
  refine (cast_ab_11ab _ _ p' n).trans (extractStridedSlice_apply _ _ _ _ _ fun a => ?_)
  fin_cases a
  · show p.val = 0 + p'.val; rw [hp]; show p'.val = _; omega
  · exact hq

/-- What one grid point of the second region stores. -/
theorem out1_apply (x0 : Vec Ideal S1x3136x512 .bf16) (x1 : Vec Ideal S1x512x8x128 .bf16) (t : Fin 8) (p : Fin 3136) (n : Fin 128) :
    (out1_2 x0 x1 : Vec Ideal S1x8x3136x128 .bf16) (ix4 0 t p n) = ∑ ch : Fin 512, x0 (ix3 0 p ch) * x1 (ix4 0 ch t n) := by
  rw [← pay12_apply x0 x1 p t n ⟨128 * t.val + n.val, by omega⟩ rfl]
  generalize hy : (ix4 0 t p n : S1x8x3136x128.Idx) = y
  have y1 : (y 1).val = t.val := by rw [← hy]
  have y2 : (y 2).val = p.val := by rw [← hy]
  have y3 : (y 3).val = n.val := by rw [← hy]
  canon_tiles x h
  · exact cols_apply (k1_pay12 x0 x1) 896 slices_S3136x1024_o0_896_S3136x128 x p ⟨128 * t.val + n.val, by omega⟩ (by omega) (by show 128 * t.val + n.val = _; omega)
  · exact cols_apply (k1_pay12 x0 x1) 768 slices_S3136x1024_o0_768_S3136x128 x p ⟨128 * t.val + n.val, by omega⟩ (by omega) (by show 128 * t.val + n.val = _; omega)
  · exact cols_apply (k1_pay12 x0 x1) 640 slices_S3136x1024_o0_640_S3136x128 x p ⟨128 * t.val + n.val, by omega⟩ (by omega) (by show 128 * t.val + n.val = _; omega)
  · exact cols_apply (k1_pay12 x0 x1) 512 slices_S3136x1024_o0_512_S3136x128 x p ⟨128 * t.val + n.val, by omega⟩ (by omega) (by show 128 * t.val + n.val = _; omega)
  · exact cols_apply (k1_pay12 x0 x1) 384 slices_S3136x1024_o0_384_S3136x128 x p ⟨128 * t.val + n.val, by omega⟩ (by omega) (by show 128 * t.val + n.val = _; omega)
  · exact cols_apply (k1_pay12 x0 x1) 256 slices_S3136x1024_o0_256_S3136x128 x p ⟨128 * t.val + n.val, by omega⟩ (by omega) (by show 128 * t.val + n.val = _; omega)
  · exact cols_apply (k1_pay12 x0 x1) 128 slices_S3136x1024_o0_128_S3136x128 x p ⟨128 * t.val + n.val, by omega⟩ (by omega) (by show 128 * t.val + n.val = _; omega)
  · exact cols_apply (k1_pay12 x0 x1) 0 slices_S3136x1024_o0_0_S3136x128 x p ⟨128 * t.val + n.val, by omega⟩ (by omega) (by show 128 * t.val + n.val = _; omega)

variable (m : (ℓ : Loc nD τ sig) → Buf (Elt Ideal) ℓ) (ρ : Dev nD → PrngReg) (c : Dev nD)

theorem idx1_0 : ∀ t : Fin cfg1.N, win1_0.index t = ![(grid1.coords t 0).val / 2, 0, 0] := (by decide +kernel : ∀ t : Fin grid1.N, _)
theorem idx1_1 : ∀ t : Fin cfg1.N, win1_1.index t = ![(grid1.coords t 0).val, 0, (grid1.coords t 1).val, 0] := (by decide +kernel : ∀ t : Fin grid1.N, _)
theorem idx1_2 : ∀ t : Fin cfg1.N, win1_2.index t = ![(grid1.coords t 0).val, (grid1.coords t 1).val, 0, 0] := (by decide +kernel : ∀ t : Fin grid1.N, _)

/-- The second region's result: sketch `w`, row `k`, pixel, frequency. -/
def projG (X : Vec Ideal S2x3136x512 .bf16) (Wt : Vec Ideal S4x512x64x128 .bf16) : Vec Ideal S4x64x3136x128 .bf16 := fun y =>
  ∑ ch : Fin 512, X (ix3 ⟨(y 0).val / 2, by have h : (y 0).val < 4 := (y 0).isLt; omega⟩ (y 2) ch) * Wt (ix4 (y 0) ch (y 1) (y 3))

theorem projG_real (X : Vec Ideal S2x3136x512 .bf16) (Wt : Vec Ideal S4x512x64x128 .bf16) (w : Fin 4) (i : Fin 2) (hi : i.val = w.val / 2)
    (k : Fin 64) (p : Fin 3136) (n : Fin 128) (x f : Fin 512 → ℝ) (hX : ∀ ch, X (ix3 i p ch) = ((x ch : ℝ) : EReal))
    (hW : ∀ ch, Wt (ix4 w ch k n) = ((f ch : ℝ) : EReal)) : projG X Wt (ix4 w k p n) = ((∑ ch, x ch * f ch : ℝ) : EReal) := by
  have hi' : (⟨w.val / 2, by omega⟩ : Fin 2) = i := Fin.ext hi.symm
  rw [← sum_coe]
  refine Finset.sum_congr rfl fun ch _ => ?_
  rw [EReal.coe_mul, ← hX ch, ← hW ch, ← hi']

theorem region1 : W8 m ρ c main_v131 = projG (W7 m ρ c main_v5) (W7 m ρ c main_v130) := by
  refine (W8_arr m ρ c 2).trans ?_
  refine (dat1 (V7 m ρ) c).arrAt_eq_of_covers 2 _ (by decide +kernel) fun t hf y => ?_
  blk_simp
  rw [after1_2]
  obtain ⟨u, k, p, n, rfl⟩ : ∃ (u : Fin 1) (k : Fin 8) (p : Fin 3136) (n : Fin 128), y = ix4 u k p n :=
    ⟨y 0, y 1, y 2, y 3, by funext a; fin_cases a <;> rfl⟩
  obtain rfl : u = 0 := Subsingleton.elim _ _
  refine (out1_apply _ _ k p n).trans ?_
  unfold projG
  refine Finset.sum_congr rfl fun ch _ => ?_
  blk_simp [iblk1, idx1_0, idx1_1, idx1_2]
  refine congrArg₂ (fun a b : EReal => a * b) (congrArg (W7 m ρ c main_v5) ?_) (congrArg (W7 m ρ c main_v130) ?_)
  · blk_ext [idx1_0, idx1_2]
    show p.val = ((((View.whole main_v131).slice (win1_2.rect t)).emb (ix4 0 k p n) 2 : Fin _) : ℕ)
    blk_simp [idx1_2]
    rfl
  · blk_ext [idx1_1, idx1_2]
    · show (grid1.coords t 0).val = ((((View.whole main_v131).slice (win1_2.rect t)).emb (ix4 0 k p n) 0 : Fin _) : ℕ)
      blk_simp [idx1_2]
    · show (grid1.coords t 1).val * 8 + k.val = ((((View.whole main_v131).slice (win1_2.rect t)).emb (ix4 0 k p n) 1 : Fin _) : ℕ)
      blk_simp [idx1_2]
      rfl
    · show n.val = ((((View.whole main_v131).slice (win1_2.rect t)).emb (ix4 0 k p n) 3 : Fin _) : ℕ)
      blk_simp [idx1_2]
      rfl

/-- The second region's result at an index, where the entries it reads are real numbers. -/
theorem proj_real (w : Fin 4) (i : Fin 2) (hi : i.val = w.val / 2) (k : Fin 64) (p : Fin 3136) (n : Fin 128) (x f : Fin 512 → ℝ)
    (hX : ∀ ch, (W2 m ρ c main_v5 : Vec Ideal S2x3136x512 .bf16) (ix3 i p ch) = ((x ch : ℝ) : EReal))
    (hW : ∀ ch, (W7 m ρ c main_v130 : Vec Ideal S4x512x64x128 .bf16) (ix4 w ch k n) = ((f ch : ℝ) : EReal)) :
    (W8 m ρ c main_v131 : Vec Ideal S4x64x3136x128 .bf16) (ix4 w k p n) = ((∑ ch, x ch * f ch : ℝ) : EReal) := by
  have e : W7 m ρ c main_v5 = W2 m ρ c main_v5 := by
    rw [W7_of m ρ c main_v5 (by decide), W6_of m ρ c main_v5 (by decide), W5_of m ρ c main_v5 (by decide), W4_of m ρ c main_v5 (by decide),
      W3_of m ρ c main_v5 (by decide)]
  rw [region1, e]
  exact projG_real _ _ w i hi k p n x f hX hW

end Cert.Bilin

end
-- ==== Proof.Fft.lean ====
/- The third region's block: two spectra multiplied and transformed back, in real numbers. -/
module

public import proofs.«01_k».proof.Proof.Dots
public import proofs.«01_k».proof.Proof.Read
public import proofs.«01_k».proof.Proof.Spectrum

@[expose] public section

set_option maxHeartbeats 1000000

noncomputable section

namespace Cert.Bilin

open Idealize.ShloMosaic hiding ix1 ix2 ix3 ix4
open Idealize.ShloMosaic.ValueIdx Idealize.ShloMosaic.TcCoe Cert.KernelIdeal Cert.KernelIdeal.Gen

/-- One of a block's four arrays, loaded without its unit axis. -/
theorem quarter (x0 : Vec Ideal S4x64x32x128 .bf16) (w : Fin 4)
    (inb : ∀ a, (![w.val, 0, 0, 0] : Fin 4 → ℕ) a + S1x64x32x128.size a ≤ S4x64x32x128.size a) (k : Fin 64) (p : Fin 32) (l : Fin 128) :
    shapeCast S64x32x128 (View.ld (Val := Elt Ideal) x0 (Rect.unit (s := S4x64x32x128) ![w.val, 0, 0, 0] S1x64x32x128.size inb) : Vec Ideal S1x64x32x128 .bf16)
      shapeCasts_S1x64x32x128_S64x32x128 (ix3 k p l) = x0 (ix4 w k p l) := by
  refine (shapeCast_1abc_abc_apply _ _ k p l).trans ?_
  refine View.ld_unit_apply_of _ _ _ _ _ _ fun a => ?_
  fin_cases a
  · rfl
  · show k.val = 0 + k.val; omega
  · show p.val = 0 + p.val; omega
  · show l.val = 0 + l.val; omega

theorem zeros3 (j : S64x32x128.Idx) : (constant S64x32x128 .f32 0x00000000#32 : FVec Ideal S64x32x128 .f32) j = ((0 : ℝ) : EReal) := bits_zero

/-- A transform along the last axis, of real entries. -/
theorem dotL_real (x : FVec Ideal S64x32x128 .bf16) (w : FVec Ideal S128x128 .bf16) (a : Fin 64) (p : Fin 32) (n : Fin 128) (f g : Fin 128 → ℝ)
    (hx : ∀ l, x (ix3 a p l) = ((f l : ℝ) : EReal)) (hw : ∀ l, w (ix2 l n) = ((g l : ℝ) : EReal)) :
    matmul dot_S64x32x128_S128x128_S64x32x128_2_0_01_1_n_n none x w (constant S64x32x128 .f32 0x00000000#32) (ix3 a p n)
      = ((∑ l, f l * g l : ℝ) : EReal) := by
  rw [dotL, zeros3, EReal.coe_zero, zero_add, ← sum_coe]
  exact Finset.sum_congr rfl fun l _ => by rw [hx, hw, EReal.coe_mul]

/-- A transform along the first axis, of real entries. -/
theorem dotK_real (w : FVec Ideal S64x64 .f32) (x : FVec Ideal S64x32x128 .f32) (a : Fin 64) (p : Fin 32) (n : Fin 128) (f g : Fin 64 → ℝ)
    (hw : ∀ k, w (ix2 a k) = ((f k : ℝ) : EReal)) (hx : ∀ k, x (ix3 k p n) = ((g k : ℝ) : EReal)) :
    matmul dot_S64x64_S64x32x128_S64x32x128_1_0_0_12_n_n none w x (constant S64x32x128 .f32 0x00000000#32) (ix3 a p n)
      = ((∑ k, f k * g k : ℝ) : EReal) := by
  rw [dotK, zeros3, EReal.coe_zero, zero_add, ← sum_coe]
  exact Finset.sum_congr rfl fun l _ => by rw [hx, hw, EReal.coe_mul]

section Block
variable (x0 : Vec Ideal S4x64x32x128 .bf16) (x1 x2 : Vec Ideal S128x128 .bf16) (x3 x4 : Vec Ideal S64x32x128 .f32) (x5 x6 : Vec Ideal S64x64 .f32)
variable (p : Fin 32) (b1re b1im b2re b2im : ℕ → ℕ → ℝ)

/-- Pixel `p` of the block holds two real spectra, and the six tables hold the cosines and sines. -/
structure BlockAt : Prop where
  re1 : ∀ (k : Fin 64) (l : Fin 128), x0 (ix4 0 k p l) = ((b1re k l : ℝ) : EReal)
  im1 : ∀ (k : Fin 64) (l : Fin 128), x0 (ix4 1 k p l) = ((b1im k l : ℝ) : EReal)
  re2 : ∀ (k : Fin 64) (l : Fin 128), x0 (ix4 2 k p l) = ((b2re k l : ℝ) : EReal)
  im2 : ∀ (k : Fin 64) (l : Fin 128), x0 (ix4 3 k p l) = ((b2im k l : ℝ) : EReal)
  t1 : ∀ l n : Fin 128, x1 (ix2 l n) = ((c128 l n : ℝ) : EReal)
  t2 : ∀ l n : Fin 128, x2 (ix2 l n) = ((s128 l n : ℝ) : EReal)
  t3 : ∀ (k : Fin 64) (n : Fin 128), x3 (ix3 k p n) = ((cD k n : ℝ) : EReal)
  t4 : ∀ (k : Fin 64) (n : Fin 128), x4 (ix3 k p n) = ((sD k n : ℝ) : EReal)
  t5 : ∀ a k : Fin 64, x5 (ix2 a k) = ((c64 a k : ℝ) : EReal)
  t6 : ∀ a k : Fin 64, x6 (ix2 a k) = ((s64 a k : ℝ) : EReal)

variable {x0 x1 x2 x3 x4 x5 x6 p b1re b1im b2re b2im} (H : BlockAt x0 x1 x2 x3 x4 x5 x6 p b1re b1im b2re b2im)
include H

theorem pay15_real (k : Fin 64) (l : Fin 128) :
    (k2_pay15 (View.ld x0 r2_1) (View.ld x0 r2_2) (View.ld x0 r2_3) (View.ld x0 r2_4) : FVec Ideal S64x32x128 .bf16) (ix3 k p l)
      = ((fre b1re b1im b2re b2im k l : ℝ) : EReal) := by
  have q0 := (quarter x0 0 inb_S4x64x32x128_S1x64x32x128_0_0_0_0 k p l).trans (H.re1 k l)
  have q1 := (quarter x0 1 inb_S4x64x32x128_S1x64x32x128_1_0_0_0 k p l).trans (H.im1 k l)
  have q2 := (quarter x0 2 inb_S4x64x32x128_S1x64x32x128_2_0_0_0 k p l).trans (H.re2 k l)
  have q3 := (quarter x0 3 inb_S4x64x32x128_S1x64x32x128_3_0_0_0 k p l).trans (H.im2 k l)
  refine (congrArg₂ (fun a b : EReal => a - b) (congrArg₂ (fun a b : EReal => a * b) q0 q2) (congrArg₂ (fun a b : EReal => a * b) q1 q3)).trans ?_
  rw [← EReal.coe_mul, ← EReal.coe_mul, ← EReal.coe_sub]; rfl

theorem pay16_real (k : Fin 64) (l : Fin 128) :
    (k2_pay16 (View.ld x0 r2_1) (View.ld x0 r2_2) (View.ld x0 r2_3) (View.ld x0 r2_4) : FVec Ideal S64x32x128 .bf16) (ix3 k p l)
      = ((fim b1re b1im b2re b2im k l : ℝ) : EReal) := by
  have q0 := (quarter x0 0 inb_S4x64x32x128_S1x64x32x128_0_0_0_0 k p l).trans (H.re1 k l)
  have q1 := (quarter x0 1 inb_S4x64x32x128_S1x64x32x128_1_0_0_0 k p l).trans (H.im1 k l)
  have q2 := (quarter x0 2 inb_S4x64x32x128_S1x64x32x128_2_0_0_0 k p l).trans (H.re2 k l)
  have q3 := (quarter x0 3 inb_S4x64x32x128_S1x64x32x128_3_0_0_0 k p l).trans (H.im2 k l)
  refine (congrArg₂ (fun a b : EReal => a + b) (congrArg₂ (fun a b : EReal => a * b) q0 q3) (congrArg₂ (fun a b : EReal => a * b) q1 q2)).trans ?_
  rw [← EReal.coe_mul, ← EReal.coe_mul, ← EReal.coe_add]; rfl

theorem pay9_real (l n : Fin 128) : (k2_pay9 (View.ld x1 r2_0) : FVec Ideal S128x128 .bf16) (ix2 l n) = ((c128 l n : ℝ) : EReal) := by
  unfold k2_pay9
  rw [View.ld_unit_zero (by funext a; fin_cases a <;> rfl), shapeCast_id]
  exact H.t1 l n

theorem pay10_real (l n : Fin 128) : (k2_pay10 (View.ld x2 r2_0) : FVec Ideal S128x128 .bf16) (ix2 l n) = ((s128 l n : ℝ) : EReal) := by
  unfold k2_pay10
  rw [View.ld_unit_zero (by funext a; fin_cases a <;> rfl), shapeCast_id]
  exact H.t2 l n

theorem pay78_real (k : Fin 64) (n : Fin 128) : (k2_pay78 x0 x1 x2 x3 x4 x5 x6 : FVec Ideal S64x32x128 .f32) (ix3 k p n)
    = ((p1re b1re b1im b2re b2im k n : ℝ) : EReal) := by
  refine (congrArg₂ (fun a b : EReal => a - b) (dotL_real _ _ k p n _ _ (pay15_real H k) (fun l => pay9_real H l n))
    (dotL_real _ _ k p n _ _ (pay16_real H k) (fun l => pay10_real H l n))).trans ?_
  rw [← EReal.coe_sub]; rfl

theorem pay79_real (k : Fin 64) (n : Fin 128) : (k2_pay79 x0 x1 x2 x3 x4 x5 x6 : FVec Ideal S64x32x128 .f32) (ix3 k p n)
    = ((p1im b1re b1im b2re b2im k n : ℝ) : EReal) := by
  refine (congrArg₂ (fun a b : EReal => a + b) (dotL_real _ _ k p n _ _ (pay15_real H k) (fun l => pay10_real H l n))
    (dotL_real _ _ k p n _ _ (pay16_real H k) (fun l => pay9_real H l n))).trans ?_
  rw [← EReal.coe_add]; rfl

theorem pay82_real (a : Fin 64) (n : Fin 128) : (k2_pay82 x0 x1 x2 x3 x4 x5 x6 : FVec Ideal S64x32x128 .f32) (ix3 a p n)
    = ((outv b1re b1im b2re b2im a n : ℝ) : EReal) := by
  have z3 : View.ld x3 r2_5 = x3 := View.ld_unit_zero (by funext a; fin_cases a <;> rfl) _ _
  have z4 : View.ld x4 r2_5 = x4 := View.ld_unit_zero (by funext a; fin_cases a <;> rfl) _ _
  have z5 : View.ld x5 r2_6 = x5 := View.ld_unit_zero (by funext a; fin_cases a <;> rfl) _ _
  have z6 : View.ld x6 r2_6 = x6 := View.ld_unit_zero (by funext a; fin_cases a <;> rfl) _ _
  have h78 := fun k => pay78_real H k n
  have h79 := fun k => pay79_real H k n
  unfold k2_pay82 k2_pay81 k2_pay80 k2_pay19 k2_pay20 k2_pay21
  rw [z3, z4, z5, z6]
  simp only [shapeCast_id]
  have hre : ∀ k : Fin 64, (subf (mulf (k2_pay78 x0 x1 x2 x3 x4 x5 x6) x3) (mulf (k2_pay79 x0 x1 x2 x3 x4 x5 x6) x4) : FVec Ideal S64x32x128 .f32) (ix3 k p n)
      = ((p2re b1re b1im b2re b2im k n : ℝ) : EReal) := fun k => by
    refine (congrArg₂ (fun a b : EReal => a - b) (congrArg₂ (fun a b : EReal => a * b) (h78 k) (H.t3 k n))
      (congrArg₂ (fun a b : EReal => a * b) (h79 k) (H.t4 k n))).trans ?_
    rw [← EReal.coe_mul, ← EReal.coe_mul, ← EReal.coe_sub]; rfl
  have him : ∀ k : Fin 64, (addf (mulf (k2_pay78 x0 x1 x2 x3 x4 x5 x6) x4) (mulf (k2_pay79 x0 x1 x2 x3 x4 x5 x6) x3) : FVec Ideal S64x32x128 .f32) (ix3 k p n)
      = ((p2im b1re b1im b2re b2im k n : ℝ) : EReal) := fun k => by
    refine (congrArg₂ (fun a b : EReal => a + b) (congrArg₂ (fun a b : EReal => a * b) (h78 k) (H.t4 k n))
      (congrArg₂ (fun a b : EReal => a * b) (h79 k) (H.t3 k n))).trans ?_
    rw [← EReal.coe_mul, ← EReal.coe_mul, ← EReal.coe_add]; rfl
  refine (congrArg₂ (fun a b : EReal => a - b) (dotK_real x5 _ a p n _ _ (fun k => H.t5 a k) hre)
    (dotK_real x6 _ a p n _ _ (fun k => H.t6 a k) him)).trans ?_
  rw [← EReal.coe_sub]; rfl

end Block

/-- Row `a` of the transformed block, its unit axis dropped. -/
theorem rows_apply (v : FVec Ideal S64x32x128 .f32) (o : ℕ) (hs : S64x32x128.Slices ![o, 0, 0] S1x32x128) (x : S32x128.Idx) (a : Fin 64) (ha : a.val = o) :
    shapeCast S32x128 (extractStridedSlice S1x32x128 ![o, 0, 0] v hs) shapeCasts_S1x32x128_S32x128 x = v (ix3 a (x 0) (x 1)) := by
  obtain ⟨p, n, rfl⟩ : ∃ (p : Fin 32) (n : Fin 128), x = ix2 p n := ⟨x 0, x 1, by funext a; fin_cases a <;> rfl⟩
  refine (shapeCast_1ab_ab_apply _ _ p n).trans (extractStridedSlice_apply _ _ _ _ _ fun b => ?_)
  fin_cases b
  · show a.val = o + 0; omega
  · show p.val = 0 + p.val; omega
  · show n.val = 0 + n.val; omega

end Cert.Bilin

end
-- ==== Proof.FftTiles.lean ====
/- The third region's stores: 64 rows of 128 columns, read back at an index. -/
module

public import proofs.«01_k».proof.Proof.Fft

@[expose] public section

set_option maxHeartbeats 4000000

noncomputable section

namespace Cert.Bilin

open Idealize.ShloMosaic hiding ix1 ix2 ix3 ix4
open Idealize.ShloMosaic.ValueIdx Idealize.ShloMosaic.TcCoe Cert.KernelIdeal Cert.KernelIdeal.Gen

/-- A row of 128 columns is where the flat column says. -/
theorem row_val (v : FVec Ideal S64x32x128 .f32) (o : ℕ) (ho : o < 64) (hs : S64x32x128.Slices ![o, 0, 0] S1x32x128) (x : S32x128.Idx) (y : S32x8192.Idx)
    (h0 : (y 0).val = (x 0).val) (h1 : (y 1).val = 128 * o + (x 1).val) (hx : (x 1).val < 128) :
    shapeCast S32x128 (extractStridedSlice S1x32x128 ![o, 0, 0] v hs) shapeCasts_S1x32x128_S32x128 x
      = v (ix3 ⟨(y 1).val / 128, by omega⟩ (y 0) ⟨(y 1).val % 128, Nat.mod_lt _ (by decide)⟩) := by
  refine (rows_apply v o hs x ⟨o, ho⟩ rfl).trans (congrArg v ?_)
  funext b
  fin_cases b
  · exact Fin.ext (show o = (y 1).val / 128 by omega)
  · exact Fin.ext h0.symm
  · exact Fin.ext (show (x 1).val = (y 1).val % 128 by omega)

/-- What one grid point of the third region stores: row `q / 128`, column `q % 128` of the transformed block. -/
theorem out2_apply (x0 : Vec Ideal S4x64x32x128 .bf16) (x1 x2 : Vec Ideal S128x128 .bf16) (x3 x4 : Vec Ideal S64x32x128 .f32) (x5 x6 : Vec Ideal S64x64 .f32)
    (y : S32x8192.Idx) : (out2_7 x0 x1 x2 x3 x4 x5 x6 : Vec Ideal S32x8192 .f32) y
      = (k2_pay82 x0 x1 x2 x3 x4 x5 x6 : FVec Ideal S64x32x128 .f32) (ix3 ⟨(y 1).val / 128, by have h : (y 1).val < 8192 := (y 1).isLt; omega⟩ (y 0)
          ⟨(y 1).val % 128, Nat.mod_lt _ (by decide)⟩) := by
  canon_tiles x h
  · exact row_val (k2_pay82 x0 x1 x2 x3 x4 x5 x6) 63 (by decide) slices_S64x32x128_o63_0_0_S1x32x128 x y h0 (by omega) x1_lt
  · exact row_val (k2_pay82 x0 x1 x2 x3 x4 x5 x6) 62 (by decide) slices_S64x32x128_o62_0_0_S1x32x128 x y h0 (by omega) x1_lt
  · exact row_val (k2_pay82 x0 x1 x2 x3 x4 x5 x6) 61 (by decide) slices_S64x32x128_o61_0_0_S1x32x128 x y h0 (by omega) x1_lt
  · exact row_val (k2_pay82 x0 x1 x2 x3 x4 x5 x6) 60 (by decide) slices_S64x32x128_o60_0_0_S1x32x128 x y h0 (by omega) x1_lt
  · exact row_val (k2_pay82 x0 x1 x2 x3 x4 x5 x6) 59 (by decide) slices_S64x32x128_o59_0_0_S1x32x128 x y h0 (by omega) x1_lt
  · exact row_val (k2_pay82 x0 x1 x2 x3 x4 x5 x6) 58 (by decide) slices_S64x32x128_o58_0_0_S1x32x128 x y h0 (by omega) x1_lt
  · exact row_val (k2_pay82 x0 x1 x2 x3 x4 x5 x6) 57 (by decide) slices_S64x32x128_o57_0_0_S1x32x128 x y h0 (by omega) x1_lt
  · exact row_val (k2_pay82 x0 x1 x2 x3 x4 x5 x6) 56 (by decide) slices_S64x32x128_o56_0_0_S1x32x128 x y h0 (by omega) x1_lt
  · exact row_val (k2_pay82 x0 x1 x2 x3 x4 x5 x6) 55 (by decide) slices_S64x32x128_o55_0_0_S1x32x128 x y h0 (by omega) x1_lt
  · exact row_val (k2_pay82 x0 x1 x2 x3 x4 x5 x6) 54 (by decide) slices_S64x32x128_o54_0_0_S1x32x128 x y h0 (by omega) x1_lt
  · exact row_val (k2_pay82 x0 x1 x2 x3 x4 x5 x6) 53 (by decide) slices_S64x32x128_o53_0_0_S1x32x128 x y h0 (by omega) x1_lt
  · exact row_val (k2_pay82 x0 x1 x2 x3 x4 x5 x6) 52 (by decide) slices_S64x32x128_o52_0_0_S1x32x128 x y h0 (by omega) x1_lt
  · exact row_val (k2_pay82 x0 x1 x2 x3 x4 x5 x6) 51 (by decide) slices_S64x32x128_o51_0_0_S1x32x128 x y h0 (by omega) x1_lt
  · exact row_val (k2_pay82 x0 x1 x2 x3 x4 x5 x6) 50 (by decide) slices_S64x32x128_o50_0_0_S1x32x128 x y h0 (by omega) x1_lt
  · exact row_val (k2_pay82 x0 x1 x2 x3 x4 x5 x6) 49 (by decide) slices_S64x32x128_o49_0_0_S1x32x128 x y h0 (by omega) x1_lt
  · exact row_val (k2_pay82 x0 x1 x2 x3 x4 x5 x6) 48 (by decide) slices_S64x32x128_o48_0_0_S1x32x128 x y h0 (by omega) x1_lt
  · exact row_val (k2_pay82 x0 x1 x2 x3 x4 x5 x6) 47 (by decide) slices_S64x32x128_o47_0_0_S1x32x128 x y h0 (by omega) x1_lt
  · exact row_val (k2_pay82 x0 x1 x2 x3 x4 x5 x6) 46 (by decide) slices_S64x32x128_o46_0_0_S1x32x128 x y h0 (by omega) x1_lt
  · exact row_val (k2_pay82 x0 x1 x2 x3 x4 x5 x6) 45 (by decide) slices_S64x32x128_o45_0_0_S1x32x128 x y h0 (by omega) x1_lt
  · exact row_val (k2_pay82 x0 x1 x2 x3 x4 x5 x6) 44 (by decide) slices_S64x32x128_o44_0_0_S1x32x128 x y h0 (by omega) x1_lt
  · exact row_val (k2_pay82 x0 x1 x2 x3 x4 x5 x6) 43 (by decide) slices_S64x32x128_o43_0_0_S1x32x128 x y h0 (by omega) x1_lt
  · exact row_val (k2_pay82 x0 x1 x2 x3 x4 x5 x6) 42 (by decide) slices_S64x32x128_o42_0_0_S1x32x128 x y h0 (by omega) x1_lt
  · exact row_val (k2_pay82 x0 x1 x2 x3 x4 x5 x6) 41 (by decide) slices_S64x32x128_o41_0_0_S1x32x128 x y h0 (by omega) x1_lt
  · exact row_val (k2_pay82 x0 x1 x2 x3 x4 x5 x6) 40 (by decide) slices_S64x32x128_o40_0_0_S1x32x128 x y h0 (by omega) x1_lt
  · exact row_val (k2_pay82 x0 x1 x2 x3 x4 x5 x6) 39 (by decide) slices_S64x32x128_o39_0_0_S1x32x128 x y h0 (by omega) x1_lt
  · exact row_val (k2_pay82 x0 x1 x2 x3 x4 x5 x6) 38 (by decide) slices_S64x32x128_o38_0_0_S1x32x128 x y h0 (by omega) x1_lt
  · exact row_val (k2_pay82 x0 x1 x2 x3 x4 x5 x6) 37 (by decide) slices_S64x32x128_o37_0_0_S1x32x128 x y h0 (by omega) x1_lt
  · exact row_val (k2_pay82 x0 x1 x2 x3 x4 x5 x6) 36 (by decide) slices_S64x32x128_o36_0_0_S1x32x128 x y h0 (by omega) x1_lt
  · exact row_val (k2_pay82 x0 x1 x2 x3 x4 x5 x6) 35 (by decide) slices_S64x32x128_o35_0_0_S1x32x128 x y h0 (by omega) x1_lt
  · exact row_val (k2_pay82 x0 x1 x2 x3 x4 x5 x6) 34 (by decide) slices_S64x32x128_o34_0_0_S1x32x128 x y h0 (by omega) x1_lt
  · exact row_val (k2_pay82 x0 x1 x2 x3 x4 x5 x6) 33 (by decide) slices_S64x32x128_o33_0_0_S1x32x128 x y h0 (by omega) x1_lt
  · exact row_val (k2_pay82 x0 x1 x2 x3 x4 x5 x6) 32 (by decide) slices_S64x32x128_o32_0_0_S1x32x128 x y h0 (by omega) x1_lt
  · exact row_val (k2_pay82 x0 x1 x2 x3 x4 x5 x6) 31 (by decide) slices_S64x32x128_o31_0_0_S1x32x128 x y h0 (by omega) x1_lt
  · exact row_val (k2_pay82 x0 x1 x2 x3 x4 x5 x6) 30 (by decide) slices_S64x32x128_o30_0_0_S1x32x128 x y h0 (by omega) x1_lt
  · exact row_val (k2_pay82 x0 x1 x2 x3 x4 x5 x6) 29 (by decide) slices_S64x32x128_o29_0_0_S1x32x128 x y h0 (by omega) x1_lt
  · exact row_val (k2_pay82 x0 x1 x2 x3 x4 x5 x6) 28 (by decide) slices_S64x32x128_o28_0_0_S1x32x128 x y h0 (by omega) x1_lt
  · exact row_val (k2_pay82 x0 x1 x2 x3 x4 x5 x6) 27 (by decide) slices_S64x32x128_o27_0_0_S1x32x128 x y h0 (by omega) x1_lt
  · exact row_val (k2_pay82 x0 x1 x2 x3 x4 x5 x6) 26 (by decide) slices_S64x32x128_o26_0_0_S1x32x128 x y h0 (by omega) x1_lt
  · exact row_val (k2_pay82 x0 x1 x2 x3 x4 x5 x6) 25 (by decide) slices_S64x32x128_o25_0_0_S1x32x128 x y h0 (by omega) x1_lt
  · exact row_val (k2_pay82 x0 x1 x2 x3 x4 x5 x6) 24 (by decide) slices_S64x32x128_o24_0_0_S1x32x128 x y h0 (by omega) x1_lt
  · exact row_val (k2_pay82 x0 x1 x2 x3 x4 x5 x6) 23 (by decide) slices_S64x32x128_o23_0_0_S1x32x128 x y h0 (by omega) x1_lt
  · exact row_val (k2_pay82 x0 x1 x2 x3 x4 x5 x6) 22 (by decide) slices_S64x32x128_o22_0_0_S1x32x128 x y h0 (by omega) x1_lt
  · exact row_val (k2_pay82 x0 x1 x2 x3 x4 x5 x6) 21 (by decide) slices_S64x32x128_o21_0_0_S1x32x128 x y h0 (by omega) x1_lt
  · exact row_val (k2_pay82 x0 x1 x2 x3 x4 x5 x6) 20 (by decide) slices_S64x32x128_o20_0_0_S1x32x128 x y h0 (by omega) x1_lt
  · exact row_val (k2_pay82 x0 x1 x2 x3 x4 x5 x6) 19 (by decide) slices_S64x32x128_o19_0_0_S1x32x128 x y h0 (by omega) x1_lt
  · exact row_val (k2_pay82 x0 x1 x2 x3 x4 x5 x6) 18 (by decide) slices_S64x32x128_o18_0_0_S1x32x128 x y h0 (by omega) x1_lt
  · exact row_val (k2_pay82 x0 x1 x2 x3 x4 x5 x6) 17 (by decide) slices_S64x32x128_o17_0_0_S1x32x128 x y h0 (by omega) x1_lt
  · exact row_val (k2_pay82 x0 x1 x2 x3 x4 x5 x6) 16 (by decide) slices_S64x32x128_o16_0_0_S1x32x128 x y h0 (by omega) x1_lt
  · exact row_val (k2_pay82 x0 x1 x2 x3 x4 x5 x6) 15 (by decide) slices_S64x32x128_o15_0_0_S1x32x128 x y h0 (by omega) x1_lt
  · exact row_val (k2_pay82 x0 x1 x2 x3 x4 x5 x6) 14 (by decide) slices_S64x32x128_o14_0_0_S1x32x128 x y h0 (by omega) x1_lt
  · exact row_val (k2_pay82 x0 x1 x2 x3 x4 x5 x6) 13 (by decide) slices_S64x32x128_o13_0_0_S1x32x128 x y h0 (by omega) x1_lt
  · exact row_val (k2_pay82 x0 x1 x2 x3 x4 x5 x6) 12 (by decide) slices_S64x32x128_o12_0_0_S1x32x128 x y h0 (by omega) x1_lt
  · exact row_val (k2_pay82 x0 x1 x2 x3 x4 x5 x6) 11 (by decide) slices_S64x32x128_o11_0_0_S1x32x128 x y h0 (by omega) x1_lt
  · exact row_val (k2_pay82 x0 x1 x2 x3 x4 x5 x6) 10 (by decide) slices_S64x32x128_o10_0_0_S1x32x128 x y h0 (by omega) x1_lt
  · exact row_val (k2_pay82 x0 x1 x2 x3 x4 x5 x6) 9 (by decide) slices_S64x32x128_o9_0_0_S1x32x128 x y h0 (by omega) x1_lt
  · exact row_val (k2_pay82 x0 x1 x2 x3 x4 x5 x6) 8 (by decide) slices_S64x32x128_o8_0_0_S1x32x128 x y h0 (by omega) x1_lt
  · exact row_val (k2_pay82 x0 x1 x2 x3 x4 x5 x6) 7 (by decide) slices_S64x32x128_o7_0_0_S1x32x128 x y h0 (by omega) x1_lt
  · exact row_val (k2_pay82 x0 x1 x2 x3 x4 x5 x6) 6 (by decide) slices_S64x32x128_o6_0_0_S1x32x128 x y h0 (by omega) x1_lt
  · exact row_val (k2_pay82 x0 x1 x2 x3 x4 x5 x6) 5 (by decide) slices_S64x32x128_o5_0_0_S1x32x128 x y h0 (by omega) x1_lt
  · exact row_val (k2_pay82 x0 x1 x2 x3 x4 x5 x6) 4 (by decide) slices_S64x32x128_o4_0_0_S1x32x128 x y h0 (by omega) x1_lt
  · exact row_val (k2_pay82 x0 x1 x2 x3 x4 x5 x6) 3 (by decide) slices_S64x32x128_o3_0_0_S1x32x128 x y h0 (by omega) x1_lt
  · exact row_val (k2_pay82 x0 x1 x2 x3 x4 x5 x6) 2 (by decide) slices_S64x32x128_o2_0_0_S1x32x128 x y h0 (by omega) x1_lt
  · exact row_val (k2_pay82 x0 x1 x2 x3 x4 x5 x6) 1 (by decide) slices_S64x32x128_o1_0_0_S1x32x128 x y h0 (by omega) x1_lt
  · exact row_val (k2_pay82 x0 x1 x2 x3 x4 x5 x6) 0 (by decide) slices_S64x32x128_o0_0_0_S1x32x128 x y h0 (by omega) x1_lt

end Cert.Bilin

end
-- ==== Proof.TrigRun.lean ====
/- The tables of cosines and sines the third region reads. -/
module

public import proofs.«01_k».proof.Proof.Fold

@[expose] public section

set_option maxHeartbeats 1000000

noncomputable section

namespace Cert.Bilin

open Idealize.ShloMosaic Idealize.ShloMosaic.ValueIdx Idealize.ShloMosaic.TcCoe Cert.KernelIdeal Cert.KernelIdeal.Gen

/-- The angles w · i · j of an m × n table. -/
def angM {m n : ℕ} (w : FVec Ideal S_ .f32) (b0 : S_.BroadcastsInDim ⟨2, ![m, n]⟩ ![])
    (b1 : (⟨1, ![m]⟩ : Shape).BroadcastsInDim ⟨2, ![m, 1]⟩ ![0]) (b2 : (⟨2, ![m, 1]⟩ : Shape).BroadcastsInDim ⟨2, ![m, n]⟩ ![0, 1])
    (b3 : (⟨1, ![n]⟩ : Shape).BroadcastsInDim ⟨2, ![1, n]⟩ ![1]) (b4 : (⟨2, ![1, n]⟩ : Shape).BroadcastsInDim ⟨2, ![m, n]⟩ ![0, 1]) :
    FVec Ideal ⟨2, ![m, n]⟩ .f32 :=
  mulf (broadcastInDim ⟨2, ![m, n]⟩ ![] b0 w)
    (mulf (broadcastInDim ⟨2, ![m, n]⟩ ![0, 1] b2 (broadcastInDim ⟨2, ![m, 1]⟩ ![0] b1 (iotaT ⟨1, ![m]⟩ 0)))
      (broadcastInDim ⟨2, ![m, n]⟩ ![0, 1] b4 (broadcastInDim ⟨2, ![1, n]⟩ ![1] b3 (iotaT ⟨1, ![n]⟩ 0))))

theorem angM_apply {m n : ℕ} (w : FVec Ideal S_ .f32) (r : ℝ) (hw : w ix0 = ((r : ℝ) : EReal)) (hm : m < 2 ^ 31) (hn : n < 2 ^ 31)
    (b0 b1 b2 b3 b4) (i : Fin m) (j : Fin n) :
    angM w b0 b1 b2 b3 b4 (ix2 i j) = ((r * ((i.val : ℝ) * j.val) : ℝ) : EReal) := by
  show broadcastInDim _ _ _ _ _ * (broadcastInDim _ _ _ _ _ * broadcastInDim _ _ _ _ _) = _
  rw [bc_col, bc_row, bc_toRow, bc_toCol, broadcastInDim_scalar_apply, hw, iotaT_apply _ _ _ (by show i.val < _; omega),
    iotaT_apply _ _ _ (by show j.val < _; omega)]
  simp only [← EReal.coe_mul]; rfl

/-- 2π over one of the three sizes. -/
theorem tau_div (b : BitVec 32) (r : ℝ) (hr : r ≠ 0) (hb : Ideal.ofBits .f32 b = ((r : ℝ) : EReal)) :
    (Host.divf tauT (constant S_ .f32 b) : FVec Ideal S_ .f32) ix0 = ((2 * Real.pi / r : ℝ) : EReal) := by
  rw [hostDivf_apply, tauT_apply]
  show Ideal.div _ (Ideal.ofBits .f32 b) = _
  rw [hb, Ideal.div_coe hr, ← EReal.coe_mul]
  congr 1; ring

def ang128 : FVec Ideal S128x128 .f32 := angM (Host.divf tauT (constant S_ .f32 0x43000000#32)) bcast_S_S128x128 bcast_S128_S128x1_0
  bcast_S128x1_S128x128_0_1 bcast_S128_S1x128_1 bcast_S1x128_S128x128_0_1
def angD : FVec Ideal S64x128 .f32 := angM (Host.divf tauT (constant S_ .f32 0x46000000#32)) bcast_S_S64x128 bcast_S64_S64x1_0
  bcast_S64x1_S64x128_0_1 bcast_S128_S1x128_1 bcast_S1x128_S64x128_0_1
def ang64 : FVec Ideal S64x64 .f32 := angM (Host.divf tauT (constant S_ .f32 0x42800000#32)) bcast_S_S64x64 bcast_S64_S64x1_0
  bcast_S64x1_S64x64_0_1 bcast_S64_S1x64_1 bcast_S1x64_S64x64_0_1

/-- A [64, 128] table repeated over 32 pixels. -/
def rep32 (a : FVec Ideal S64x128 .f32) : FVec Ideal S64x32x128 .f32 :=
  broadcastInDim S64x32x128 ![0, 1, 2] bcast_S64x1x128_S64x32x128_0_1_2 (broadcastInDim S64x1x128 ![0, 2] bcast_S64x128_S64x1x128_0_2 a)

variable (V : Valuation τ sig (Elt Ideal))

theorem ops2_v145 : StableHlo.after hostOps2 V (main_v145 : DevRef τ sig) = truncf .bf16 (Host.cos ang128) bitsLt_bf16_f32 := by
  after_results; rfl
theorem ops2_v155 : StableHlo.after hostOps2 V (main_v155 : DevRef τ sig) = truncf .bf16 (Host.sin ang128) bitsLt_bf16_f32 := by
  after_results; rfl
theorem ops2_v166 : StableHlo.after hostOps2 V (main_v166 : DevRef τ sig) = rep32 (Host.cos angD) := by
  after_results; rfl
theorem ops2_v169 : StableHlo.after hostOps2 V (main_v169 : DevRef τ sig) = rep32 (Host.sin angD) := by
  after_results; rfl
theorem ops2_v178 : StableHlo.after hostOps2 V (main_v178 : DevRef τ sig) = Host.cos ang64 := by
  after_results; rfl
theorem ops2_v187 : StableHlo.after hostOps2 V (main_v187 : DevRef τ sig) = Host.sin ang64 := by
  after_results; rfl

/-- The table of 128-point cosines and sines. -/
theorem tab128 (i j : Fin 128) :
    (StableHlo.after hostOps2 V (main_v145 : DevRef τ sig) : FVec Ideal S128x128 .bf16) (ix2 i j)
        = ((Real.cos (2 * Real.pi / 128 * ((i.val : ℝ) * j.val)) : ℝ) : EReal)
      ∧ (StableHlo.after hostOps2 V (main_v155 : DevRef τ sig) : FVec Ideal S128x128 .bf16) (ix2 i j)
        = ((Real.sin (2 * Real.pi / 128 * ((i.val : ℝ) * j.val)) : ℝ) : EReal) := by
  rw [ops2_v145, ops2_v155]
  have e : ang128 (ix2 i j) = _ := angM_apply _ _ (tau_div _ _ (by norm_num) bits_128) (by norm_num) (by norm_num) _ _ _ _ _ i j
  constructor
  · show Ideal.cos (ang128 _) = _
    rw [e, Ideal.cos_coe]
  · show Ideal.sin (ang128 _) = _
    rw [e, Ideal.sin_coe]

/-- The table of 64-point cosines and sines. -/
theorem tab64 (i j : Fin 64) :
    (StableHlo.after hostOps2 V (main_v178 : DevRef τ sig) : FVec Ideal S64x64 .f32) (ix2 i j)
        = ((Real.cos (2 * Real.pi / 64 * ((i.val : ℝ) * j.val)) : ℝ) : EReal)
      ∧ (StableHlo.after hostOps2 V (main_v187 : DevRef τ sig) : FVec Ideal S64x64 .f32) (ix2 i j)
        = ((Real.sin (2 * Real.pi / 64 * ((i.val : ℝ) * j.val)) : ℝ) : EReal) := by
  rw [ops2_v178, ops2_v187]
  have e : ang64 (ix2 i j) = _ := angM_apply _ _ (tau_div _ _ (by norm_num) bits_64) (by norm_num) (by norm_num) _ _ _ _ _ i j
  constructor
  · show Ideal.cos (ang64 _) = _
    rw [e, Ideal.cos_coe]
  · show Ideal.sin (ang64 _) = _
    rw [e, Ideal.sin_coe]

/-- The twiddles, one copy for each of 32 pixels. -/
theorem tabTw (k : Fin 64) (p : Fin 32) (n : Fin 128) :
    (StableHlo.after hostOps2 V (main_v166 : DevRef τ sig) : FVec Ideal S64x32x128 .f32) (ix3 k p n)
        = ((Real.cos (2 * Real.pi / 8192 * ((k.val : ℝ) * n.val)) : ℝ) : EReal)
      ∧ (StableHlo.after hostOps2 V (main_v169 : DevRef τ sig) : FVec Ideal S64x32x128 .f32) (ix3 k p n)
        = ((Real.sin (2 * Real.pi / 8192 * ((k.val : ℝ) * n.val)) : ℝ) : EReal) := by
  rw [ops2_v166, ops2_v169, rep32, rep32, bc_mid3, bc_mid3, bc_mid, bc_mid]
  have e : angD (ix2 k n) = _ := angM_apply _ _ (tau_div _ _ (by norm_num) bits_8192) (by norm_num) (by norm_num) _ _ _ _ _ k n
  constructor
  · show Ideal.cos (angD _) = _
    rw [e, Ideal.cos_coe]
  · show Ideal.sin (angD _) = _
    rw [e, Ideal.sin_coe]

end Cert.Bilin

end
-- ==== Proof.FftTab.lean ====
/- The third region's blocks: the tables and the pixels' rows each grid point reads. -/
module

public import proofs.«01_k».proof.Proof.FftTiles
public import proofs.«01_k».proof.Proof.TrigRun

@[expose] public section

set_option maxHeartbeats 4000000

noncomputable section

namespace Cert.Bilin

open Idealize.ShloMosaic hiding ix1 ix2 ix3 ix4
open Idealize.ShloMosaic.ValueIdx Idealize.ShloMosaic.TcCoe Cert.KernelIdeal Cert.KernelIdeal.Gen

variable (m : (ℓ : Loc nD τ sig) → Buf (Elt Ideal) ℓ) (ρ : Dev nD → PrngReg) (c : Dev nD)

theorem idx2_0 : ∀ t : Fin cfg2.N, win2_0.index t = ![0, 0, (grid2.coords t 0).val, 0] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0, 0] := (by decide +kernel : ∀ t : Fin grid2.N, _)
theorem idx2_4 : ∀ t : Fin cfg2.N, win2_4.index t = ![0, 0, 0] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![0, 0] := (by decide +kernel : ∀ t : Fin grid2.N, _)
theorem idx2_7 : ∀ t : Fin cfg2.N, win2_7.index t = ![(grid2.coords t 0).val, 0] := (by decide +kernel : ∀ t : Fin grid2.N, _)

/-- The six tables' blocks are the tables. -/
theorem tables (t : Fin cfg2.N) :
    (∀ l n : Fin 128, (iblk2 (V9 m ρ) c 1 t : Vec Ideal S128x128 .bf16) (ix2 l n) = ((c128 l n : ℝ) : EReal))
    ∧ (∀ l n : Fin 128, (iblk2 (V9 m ρ) c 2 t : Vec Ideal S128x128 .bf16) (ix2 l n) = ((s128 l n : ℝ) : EReal))
    ∧ (∀ (k : Fin 64) (p : Fin 32) (n : Fin 128), (iblk2 (V9 m ρ) c 3 t : Vec Ideal S64x32x128 .f32) (ix3 k p n) = ((cD k n : ℝ) : EReal))
    ∧ (∀ (k : Fin 64) (p : Fin 32) (n : Fin 128), (iblk2 (V9 m ρ) c 4 t : Vec Ideal S64x32x128 .f32) (ix3 k p n) = ((sD k n : ℝ) : EReal))
    ∧ (∀ a k : Fin 64, (iblk2 (V9 m ρ) c 5 t : Vec Ideal S64x64 .f32) (ix2 a k) = ((c64 a k : ℝ) : EReal))
    ∧ (∀ a k : Fin 64, (iblk2 (V9 m ρ) c 6 t : Vec Ideal S64x64 .f32) (ix2 a k) = ((s64 a k : ℝ) : EReal)) := by
  refine ⟨fun l n => ?_, fun l n => ?_, fun k p n => ?_, fun k p n => ?_, fun a k => ?_, fun a k => ?_⟩
  · refine Eq.trans ?_ (tab128 (W8 m ρ c) l n).1
    blk_simp [iblk2, idx2_1]
    exact congrArg (W9 m ρ c main_v145) (by blk_ext [idx2_1])
  · refine Eq.trans ?_ (tab128 (W8 m ρ c) l n).2
    blk_simp [iblk2, idx2_2]
    exact congrArg (W9 m ρ c main_v155) (by blk_ext [idx2_2])
  · refine Eq.trans ?_ (tabTw (W8 m ρ c) k p n).1
    blk_simp [iblk2, idx2_3]
    exact congrArg (W9 m ρ c main_v166) (by blk_ext [idx2_3])
  · refine Eq.trans ?_ (tabTw (W8 m ρ c) k p n).2
    blk_simp [iblk2, idx2_4]
    exact congrArg (W9 m ρ c main_v169) (by blk_ext [idx2_4])
  · refine Eq.trans ?_ (tab64 (W8 m ρ c) a k).1
    blk_simp [iblk2, idx2_5]
    exact congrArg (W9 m ρ c main_v178) (by blk_ext [idx2_5])
  · refine Eq.trans ?_ (tab64 (W8 m ρ c) a k).2
    blk_simp [iblk2, idx2_6]
    exact congrArg (W9 m ρ c main_v187) (by blk_ext [idx2_6])

/-- A pixel's rows of the block are its rows of the array. -/
theorem spectra (t : Fin cfg2.N) (w : Fin 4) (k : Fin 64) (p : Fin 32) (l : Fin 128) (P : Fin 3136) (hP : P.val = (grid2.coords t 0).val * 32 + p.val) :
    (iblk2 (V9 m ρ) c 0 t : Vec Ideal S4x64x32x128 .bf16) (ix4 w k p l) = (W8 m ρ c main_v131 : Vec Ideal S4x64x3136x128 .bf16) (ix4 w k P l) := by
  rw [← W9_of m ρ c main_v131 (by decide)]
  blk_simp [iblk2, idx2_0]
  refine congrArg (W9 m ρ c main_v131) ?_
  blk_ext [idx2_0]
  exact hP.symm

end Cert.Bilin

end
-- ==== Proof.FftVal.lean ====
/- The third region's array: each pixel's row is its transformed spectrum. -/
module

public import proofs.«01_k».proof.Proof.FftTab

@[expose] public section

set_option maxHeartbeats 4000000

noncomputable section

namespace Cert.Bilin

open Idealize.ShloMosaic hiding ix1 ix2 ix3 ix4
open Idealize.ShloMosaic.ValueIdx Idealize.ShloMosaic.TcCoe Cert.KernelIdeal Cert.KernelIdeal.Gen

variable (m : (ℓ : Loc nD τ sig) → Buf (Elt Ideal) ℓ) (ρ : Dev nD → PrngReg) (c : Dev nD)

/-- Row `P` holds the transformed product of pixel `P`'s two spectra. -/
def fftG (B : Fin 4 → Fin 3136 → ℕ → ℕ → ℝ) : Vec Ideal S3136x8192 .f32 := fun y =>
  ((outv (B 0 (y 0)) (B 1 (y 0)) (B 2 (y 0)) (B 3 (y 0)) ((y 1).val / 128) ((y 1).val % 128) : ℝ) : EReal)

theorem fftG_of (B : Fin 4 → Fin 3136 → ℕ → ℕ → ℝ) (y : S3136x8192.Idx) (P : Fin 3136) (q : ℕ) (h0 : (y 0).val = P.val) (h1 : (y 1).val = q) :
    fftG B y = ((outv (B 0 P) (B 1 P) (B 2 P) (B 3 P) (q / 128) (q % 128) : ℝ) : EReal) := by
  obtain rfl : y 0 = P := Fin.ext h0
  subst h1
  rfl

/-- Where every pixel's projections are real numbers, the third region's array is their transformed products. -/
theorem region2 (B : Fin 4 → Fin 3136 → ℕ → ℕ → ℝ)
    (hB : ∀ (w : Fin 4) (k : Fin 64) (P : Fin 3136) (l : Fin 128), (W8 m ρ c main_v131 : Vec Ideal S4x64x3136x128 .bf16) (ix4 w k P l) = ((B w P k l : ℝ) : EReal)) :
    W10 m ρ c main_v188 = fftG B := by
  refine (W10_arr m ρ c 7).trans ?_
  refine (dat2 (V9 m ρ) c).arrAt_eq_of_covers 7 _ (by decide +kernel) fun t hf y => ?_
  blk_simp
  rw [after2_7]
  obtain ⟨p, q, rfl⟩ : ∃ (p : Fin 32) (q : Fin 8192), y = ix2 p q := ⟨y 0, y 1, by funext a; fin_cases a <;> rfl⟩
  obtain ⟨t1, t2, t3, t4, t5, t6⟩ := tables m ρ c t
  have hp := p.isLt
  have ht : (grid2.coords t 0).val < 98 := (grid2.coords t 0).isLt
  obtain ⟨P, hP⟩ : ∃ P : Fin 3136, P.val = (grid2.coords t 0).val * 32 + p.val := ⟨⟨_, by omega⟩, rfl⟩
  have hs := fun w k l => (spectra m ρ c t w k p l P hP).trans (hB w k P l)
  refine (out2_apply _ _ _ _ _ _ _ (ix2 p q)).trans ?_
  refine (pay82_real ⟨hs 0, hs 1, hs 2, hs 3, t1, t2, fun k n => t3 k p n, fun k n => t4 k p n, t5, t6⟩ _ _).trans ?_
  refine (fftG_of B _ P q.val ?_ ?_).symm
  · blk_simp [idx2_7]; exact hP.symm
  · blk_simp [idx2_7]

end Cert.Bilin

end
-- ==== Proof.KernelVal.lean ====
/- The kernel's result: at every pixel, 8192 times the circular convolution of the two count sketches. -/
module

public import proofs.«01_k».proof.Proof.Xt
public import proofs.«01_k».proof.Proof.FoldVal
public import proofs.«01_k».proof.Proof.Proj
public import proofs.«01_k».proof.Proof.FftVal
public import proofs.«01_k».proof.Proof.Shapes

@[expose] public section

set_option maxHeartbeats 1000000

noncomputable section

namespace Cert.Bilin

open Idealize.ShloMosaic hiding ix1 ix2 ix3 ix4
open Idealize.ShloMosaic.ValueIdx Idealize.ShloMosaic.TcCoe Cert.KernelIdeal Cert.KernelIdeal.Gen

/-- The four spectra of every pixel, from its channels and the two sketches. -/
def spec (X1 X2 : Fin 3136 → Fin 512 → ℝ) (s1 s2 : Fin 512 → ℝ) (h1 h2 : Fin 512 → ℕ) (w : Fin 4) (P : Fin 3136) : ℕ → ℕ → ℝ :=
  match w with
  | 0 => bre (X1 P) s1 h1
  | 1 => bim (X1 P) s1 h1
  | 2 => bre (X2 P) s2 h2
  | 3 => bim (X2 P) s2 h2

/-- The channels at a pixel's number. -/
def pix (r : Fin 16 → Fin 512 → Fin 14 → Fin 14 → ℝ) (P : Fin 3136) (ch : Fin 512) : ℝ :=
  r ⟨P.val / 196, by omega⟩ ch ⟨P.val / 14 % 14, Nat.mod_lt _ (by decide)⟩ ⟨P.val % 14, Nat.mod_lt _ (by decide)⟩

theorem pix_of (r : Fin 16 → Fin 512 → Fin 14 → Fin 14 → ℝ) (n : Fin 16) (h w : Fin 14) (P : Fin 3136)
    (hP : P.val = (n.val * 14 + h.val) * 14 + w.val) : pix r P = fun ch => r n ch h w := by
  funext ch
  have e1 : (⟨P.val / 196, by omega⟩ : Fin 16) = n := Fin.ext (by show P.val / 196 = n.val; omega)
  have e2 : (⟨P.val / 14 % 14, Nat.mod_lt _ (by decide)⟩ : Fin 14) = h := Fin.ext (by show P.val / 14 % 14 = h.val; omega)
  have e3 : (⟨P.val % 14, Nat.mod_lt _ (by decide)⟩ : Fin 14) = w := Fin.ext (by show P.val % 14 = w.val; omega)
  unfold pix
  rw [e1, e2, e3]

variable (m : (ℓ : Loc nD τ sig) → Buf (Elt Ideal) ℓ) (ρ : Dev nD → PrngReg) (c : Dev nD)
variable {r1 r2 : Fin 16 → Fin 512 → Fin 14 → Fin 14 → ℝ} {s1 s2 : Fin 512 → ℝ} {h1 h2 : Fin 512 → ℕ}

/-- The second region's array holds the spectra. -/
theorem projected
    (X1 : ∀ n ch h w, (m ((c : Thread nD τ).loc main_arg0) : Vec Ideal S16x512x14x14 .f32) (ix4 n ch h w) = ((r1 n ch h w : ℝ) : EReal))
    (X2 : ∀ n ch h w, (m ((c : Thread nD τ).loc main_arg1) : Vec Ideal S16x512x14x14 .f32) (ix4 n ch h w) = ((r2 n ch h w : ℝ) : EReal))
    (H1 : IsSketch (m ((c : Thread nD τ).loc main_arg2)) s1 h1) (H2 : IsSketch (m ((c : Thread nD τ).loc main_arg3)) s2 h2)
    (w : Fin 4) (k : Fin 64) (P : Fin 3136) (l : Fin 128) :
    (W8 m ρ c main_v131 : Vec Ideal S4x64x3136x128 .bf16) (ix4 w k P l) = ((spec (pix r1) (pix r2) s1 s2 h1 h2 w P k l : ℝ) : EReal) := by
  have x := fun ch => xt_apply m ρ c ⟨P.val / 196, by omega⟩ ⟨P.val / 14 % 14, Nat.mod_lt _ (by decide)⟩ ⟨P.val % 14, Nat.mod_lt _ (by decide)⟩ ch P
    (by show P.val = (P.val / 196 * 14 + P.val / 14 % 14) * 14 + P.val % 14; omega)
  have x1 := fun ch => (x ch).1.trans (X1 _ ch _ _)
  have x2 := fun ch => (x ch).2.trans (X2 _ ch _ _)
  have f := fun ch => weights m ρ c H1 H2 ch k l
  fin_cases w
  · exact proj_real m ρ c 0 0 rfl k P l (pix r1 P) (fun ch => wre (s1 ch) (h1 ch) k l) x1 fun ch => (f ch).1
  · exact proj_real m ρ c 1 0 rfl k P l (pix r1 P) (fun ch => wim (s1 ch) (h1 ch) k l) x1 fun ch => (f ch).2.1
  · exact proj_real m ρ c 2 1 rfl k P l (pix r2 P) (fun ch => wre (s2 ch) (h2 ch) k l) x2 fun ch => (f ch).2.2.1
  · exact proj_real m ρ c 3 1 rfl k P l (pix r2 P) (fun ch => wim (s2 ch) (h2 ch) k l) x2 fun ch => (f ch).2.2.2

/-- The last host operation splits the pixels' axis in three. -/
theorem ops3_v189 (V : Valuation τ sig (Elt Ideal)) :
    StableHlo.after hostOps3 V (main_v189 : DevRef τ sig) = shapeCast S16x14x14x8192 (V main_v188 : Vec Ideal S3136x8192 .f32) shapeCasts_S3136x8192_S16x14x14x8192 := by
  after_results; rfl

/-- The kernel's result at an index. -/
theorem kernel_value
    (X1 : ∀ n ch h w, (m ((c : Thread nD τ).loc main_arg0) : Vec Ideal S16x512x14x14 .f32) (ix4 n ch h w) = ((r1 n ch h w : ℝ) : EReal))
    (X2 : ∀ n ch h w, (m ((c : Thread nD τ).loc main_arg1) : Vec Ideal S16x512x14x14 .f32) (ix4 n ch h w) = ((r2 n ch h w : ℝ) : EReal))
    (H1 : IsSketch (m ((c : Thread nD τ).loc main_arg2)) s1 h1) (H2 : IsSketch (m ((c : Thread nD τ).loc main_arg3)) s2 h2)
    (n : Fin 16) (h w : Fin 14) (d : Fin 8192) :
    (W11 m ρ c main_v189 : Vec Ideal S16x14x14x8192 .f32) (ix4 n h w d)
      = (((∑ j ∈ Finset.range 8192, sk (fun ch => r1 n ch h w) s1 h1 j * sk (fun ch => r2 n ch h w) s2 h2 ((8192 - j + d.val) % 8192)) * 8192 : ℝ) : EReal) := by
  obtain ⟨P, hP⟩ : ∃ P : Fin 3136, P.val = (n.val * 14 + h.val) * 14 + w.val := ⟨⟨_, by omega⟩, rfl⟩
  have e := region2 m ρ c (spec (pix r1) (pix r2) s1 s2 h1 h2) (projected m ρ c X1 X2 H1 H2)
  have e3 : W11 m ρ c main_v189 = _ := ops3_v189 (W10 m ρ c)
  rw [e3, e]
  refine (cast_split (fftG (spec (pix r1) (pix r2) s1 s2 h1 h2)) _ n h w d P hP).trans ?_
  refine (fftG_of _ _ P d.val rfl rfl).trans ?_
  have hd : 128 * (d.val / 128) + d.val % 128 = d.val := Nat.div_add_mod _ _
  have := outv_conv (pix r1 P) (pix r2 P) s1 s2 h1 h2 H1.pos H2.pos (d.val / 128) (d.val % 128) (by rw [hd]; exact d.isLt)
  rw [hd, pix_of r1 n h w P hP, pix_of r2 n h w P hP] at this
  rw [← this]
  show ((outv (bre (pix r1 P) s1 h1) (bim (pix r1 P) s1 h1) (bre (pix r2 P) s2 h2) (bim (pix r2 P) s2 h2) _ _ : ℝ) : EReal) = _
  rw [pix_of r1 n h w P hP, pix_of r2 n h w P hP]

end Cert.Bilin

end
-- ==== Proof.RefVal.lean ====
/- The reference's result: at every pixel, 8192 times the circular convolution of the two count sketches, which its
   loop sums one shift a trip. -/
module

public import proofs.«01_k».proof.Proof.Gen.ReferenceIdeal.Step
public import proofs.«01_k».proof.Proof.FoldVal
public import Idealize.ShloMosaic.Lib.Pipeline.ValueKit
public import Idealize.ShloMosaic.Lib.DynamicIndex

@[expose] public section

set_option maxHeartbeats 1000000

noncomputable section

namespace Cert.Bilin.Ref

open Idealize.ShloMosaic hiding ix1 ix2 ix3 ix4
open Idealize.ShloMosaic.ValueIdx Cert.ReferenceIdeal Cert.ReferenceIdeal.Gen Cert.ReferenceIdeal.Step

/-- A projection onto the columns of a matrix, channel by channel. -/
theorem dotC (x : FVec Ideal S16x512x14x14 .f32) (S : FVec Ideal S512x8192 .f32) (n : Fin 16) (h w : Fin 14) (d : Fin 8192) :
    Host.dotGeneral dot_S16x512x14x14_S512x8192_S16x14x14x8192_1_0_023_1_n_n none x S (ix4 n h w d)
      = ∑ ch : Fin 512, x (ix4 n ch h w) * S (ix2 ch d) :=
  (Ideal.matmul_apply₁_of dot_S16x512x14x14_S512x8192_S16x14x14x8192_1_0_023_1_n_n rfl rfl x S (fun _ => 0) (ix4 n h w d)
    (fun ch => ix4 n ch h w) (fun ch => ix2 ch d)
    (fun k => by funext a; fin_cases a <;> rfl) (fun k => by funext a; fin_cases a <;> rfl)).trans (zero_add _)

/-- A projection of real channels onto a sketch is the count sketch. -/
theorem dotC_sketch {S : FVec Ideal S512x8192 .f32} {s : Fin 512 → ℝ} {p : Fin 512 → ℕ} (H : IsSketch S s p)
    (x : FVec Ideal S16x512x14x14 .f32) (r : Fin 512 → ℝ) (n : Fin 16) (h w : Fin 14) (d : Fin 8192)
    (hx : ∀ ch, x (ix4 n ch h w) = ((r ch : ℝ) : EReal)) :
    Host.dotGeneral dot_S16x512x14x14_S512x8192_S16x14x14x8192_1_0_023_1_n_n none x S (ix4 n h w d) = ((sk r s p d : ℝ) : EReal) := by
  rw [dotC]
  simp_rw [hx, H.entry, ← EReal.coe_mul]
  exact sum_coe _ _

/-- A block cut at a number along the last of four axes. -/
theorem dyn_apply {α : Type} {N M : ℕ} (x : (⟨4, ![16, 14, 14, N]⟩ : Shape).Idx → α) (start : Fin 4 → ℤ)
    (hf : (⟨4, ![16, 14, 14, N]⟩ : Shape).Slices (fun _ => 0) ⟨4, ![16, 14, 14, M]⟩) (k : ℕ)
    (e0 : start 0 = 0) (e1 : start 1 = 0) (e2 : start 2 = 0) (e3 : start 3 = (k : ℤ)) (hk : k + M ≤ N)
    (n : Fin 16) (h w : Fin 14) (z : Fin M) :
    Host.dynamicSlice ⟨4, ![16, 14, 14, M]⟩ x start hf (ix4 n h w z) = x (ix4 n h w ⟨k + z.val, by omega⟩) := by
  have hs : (⟨4, ![16, 14, 14, N]⟩ : Shape).Slices (![0, 0, 0, k]) ⟨4, ![16, 14, 14, M]⟩ :=
    ⟨rfl, by
      intro a
      fin_cases a
      · exact le_refl 16
      · exact le_refl 14
      · exact le_refl 14
      · exact hk⟩
  rw [Host.dynamicSlice_eq_extractStridedSlice _ _ _ (![0, 0, 0, k]) _ hs (by
    intro a
    fin_cases a
    · exact e0
    · exact e1
    · exact e2
    · exact e3)]
  exact extractStridedSlice_apply _ _ _ _ _ (by
    intro a
    fin_cases a
    · exact (Nat.zero_add _).symm
    · exact (Nat.zero_add _).symm
    · exact (Nat.zero_add _).symm
    · rfl)

/-- The same, the starts given by four scalars. -/
theorem dyn4_apply {α : Type} {N M : ℕ} (x : (⟨4, ![16, 14, 14, N]⟩ : Shape).Idx → α) (i0 i1 i2 i3 : IVec S_ 32)
    (hf : (⟨4, ![16, 14, 14, N]⟩ : Shape).Slices (fun _ => 0) ⟨4, ![16, 14, 14, M]⟩) (k : ℕ)
    (e0 : (i0 (Shape.Idx.first h_S_)).toInt = 0) (e1 : (i1 (Shape.Idx.first h_S_)).toInt = 0)
    (e2 : (i2 (Shape.Idx.first h_S_)).toInt = 0) (e3 : (i3 (Shape.Idx.first h_S_)).toInt = (k : ℤ)) (hk : k + M ≤ N)
    (n : Fin 16) (h w : Fin 14) (z : Fin M) :
    Host.dynamicSlice ⟨4, ![16, 14, 14, M]⟩ x (fun a => ((![i0, i1, i2, i3] : Fin 4 → IVec S_ 32) a (Shape.Idx.first h_S_)).toInt) hf (ix4 n h w z)
      = x (ix4 n h w ⟨k + z.val, by omega⟩) :=
  dyn_apply x _ hf k e0 e1 e2 e3 hk n h w z

variable (s : State Ideal) (j : ℕ)

/-- The trip's column of the first operand. -/
theorem b11_apply (hj : j < 8192) (n : Fin 16) (h w : Fin 14) :
    (b11 j s : Vec Ideal S16x14x14x1 .f32) (ix4 n h w 0) = (s.main_v4_0 : Vec Ideal S16x14x14x8192 .f32) (ix4 n h w ⟨j, hj⟩) :=
  dyn_apply (M := 1) (s.main_v4_0 : Vec Ideal S16x14x14x8192 .f32) _ sliceFits_S16x14x14x8192_S16x14x14x1 j rfl rfl rfl
    (toInt_wrap_ofNat j (by omega)) (by omega) n h w 0

/-- The window's start. -/
theorem b19_toInt (k : ℕ) (hk : k + j = 8192) :
    BitVec.toInt ((b19 j s : IVec S_ 32) (Shape.Idx.first h_S_)) = (k : ℤ) := by
  have hs : (b13 j s : IVec S_ 32) = constantI S_ 32 (BitVec.ofNat 32 k) := by
    funext i
    show 8192#32 - BitVec.ofNat 32 j = BitVec.ofNat 32 k
    apply BitVec.eq_of_toNat_eq
    rw [BitVec.toNat_sub, BitVec.toNat_ofNat, BitVec.toNat_ofNat, BitVec.toNat_ofNat]
    omega
  show BitVec.toInt (select (cmpi .slt (b13 j s : IVec S_ 32) (constantI S_ 32 0#32)) (addi (b13 j s : IVec S_ 32) (constantI S_ 32 16384#32))
    (b13 j s : IVec S_ 32) (Shape.Idx.first h_S_)) = (k : ℤ)
  rw [hs]
  exact toInt_wrap_ofNat k (by omega)

/-- The trip's window of the second operand. -/
theorem b23_apply (k : ℕ) (hk : k + j = 8192) (n : Fin 16) (h w : Fin 14) (d : Fin 8192) :
    (b23 j s : Vec Ideal S16x14x14x8192 .f32) (ix4 n h w d)
      = (s.main_v4_1 : Vec Ideal S16x14x14x16384 .f32) (ix4 n h w ⟨k + d.val, by omega⟩) := by
  exact dyn4_apply (s.main_v4_1 : Vec Ideal S16x14x14x16384 .f32) (b20 j s) (b21 j s) (b22 j s) (b19 j s)
    sliceFits_S16x14x14x16384_S16x14x14x8192 k rfl rfl rfl (b19_toInt s j k hk) (by omega) n h w d

/-- One trip adds one shift's product. -/
theorem b26_apply (hj : j < 8192) (k : ℕ) (hk : k + j = 8192) (n : Fin 16) (h w : Fin 14) (d : Fin 8192) :
    (b26 j s : Vec Ideal S16x14x14x8192 .f32) (ix4 n h w d)
      = (s.main_v4_4 : Vec Ideal S16x14x14x8192 .f32) (ix4 n h w d)
        + (s.main_v4_0 : Vec Ideal S16x14x14x8192 .f32) (ix4 n h w ⟨j, hj⟩)
          * (s.main_v4_1 : Vec Ideal S16x14x14x16384 .f32) (ix4 n h w ⟨k + d.val, by omega⟩) := by
  have e : (b24 j s : Vec Ideal S16x14x14x8192 .f32) (ix4 n h w d) = (b11 j s : Vec Ideal S16x14x14x1 .f32) (ix4 n h w 0) :=
    broadcastInDim_apply _ _ _ _ _ (by intro a; fin_cases a <;> rfl)
  rw [← b11_apply s j hj n h w, ← b23_apply s j k hk n h w d, ← e]
  rfl

/-- The trips' states from the arguments'. -/
def iter (a0 : FVec Ideal S16x512x14x14 .f32) (a1 : FVec Ideal S16x512x14x14 .f32) (a2 a3 : FVec Ideal S512x8192 .f32) : ℕ → State Ideal
  | 0 => init a0 a1 a2 a3
  | j + 1 => step j (iter a0 a1 a2 a3 j)

variable (a0 a1 : FVec Ideal S16x512x14x14 .f32) (a2 a3 : FVec Ideal S512x8192 .f32)

theorem iter_fixed : (iter a0 a1 a2 a3 j).main_v4_0 = A_main_v0 a0 a1 a2 a3 ∧ (iter a0 a1 a2 a3 j).main_v4_1 = A_main_v2 a0 a1 a2 a3 := by
  induction j with
  | zero => exact ⟨rfl, rfl⟩
  | succ j ih => exact ih

/-- An array joined to itself is read modulo its length. -/
theorem joined_apply (x : Vec Ideal S16x14x14x8192 .f32)
    (hc : Shape.Concatenates [S16x14x14x8192, S16x14x14x8192] S16x14x14x16384 3) (n : Fin 16) (h w : Fin 14) (i : ℕ) (hi : i < 16384) :
    (concatenate S16x14x14x16384 3 [⟨S16x14x14x8192, x⟩, ⟨S16x14x14x8192, x⟩] hc : Vec Ideal S16x14x14x16384 .f32) (ix4 n h w ⟨i, hi⟩)
      = x (ix4 n h w ⟨i % 8192, Nat.mod_lt _ (by decide)⟩) := by
  by_cases hl : i < 8192
  · refine concatenate_pair_apply_left (t := S16x14x14x16384) (s₁ := S16x14x14x8192) (s₂ := S16x14x14x8192) 3 x x hc _ rfl _ ?_
    intro a
    fin_cases a
    · rfl
    · rfl
    · rfl
    · exact Nat.mod_eq_of_lt hl
  · refine concatenate_pair_apply_right (t := S16x14x14x16384) (s₁ := S16x14x14x8192) (s₂ := S16x14x14x8192) 3 x x hc _ rfl rfl _ ?_
      (by show i % 8192 + 8192 = i; omega)
    intro a ha
    fin_cases a
    · rfl
    · rfl
    · rfl
    · exact absurd rfl ha

/-- The second operand twice over is read modulo its length. -/
theorem twice_apply (n : Fin 16) (h w : Fin 14) (i : ℕ) (hi : i < 16384) :
    (A_main_v2 a0 a1 a2 a3 : Vec Ideal S16x14x14x16384 .f32) (ix4 n h w ⟨i, hi⟩)
      = (A_main_v1 a0 a1 a2 a3 : Vec Ideal S16x14x14x8192 .f32) (ix4 n h w ⟨i % 8192, Nat.mod_lt _ (by decide)⟩) :=
  joined_apply _ _ n h w i hi

variable {r1 r2 : Fin 16 → Fin 512 → Fin 14 → Fin 14 → ℝ} {s1 s2 : Fin 512 → ℝ} {h1 h2 : Fin 512 → ℕ}
variable (X1 : ∀ n ch h w, a0 (ix4 n ch h w) = ((r1 n ch h w : ℝ) : EReal)) (X2 : ∀ n ch h w, a1 (ix4 n ch h w) = ((r2 n ch h w : ℝ) : EReal))
variable (H1 : IsSketch a2 s1 h1) (H2 : IsSketch a3 s2 h2)
include X1 X2 H1 H2

/-- After `j` trips the accumulator holds the first `j` terms. -/
theorem iter_apply (hj : j ≤ 8192) (n : Fin 16) (h w : Fin 14) (d : Fin 8192) :
    ((iter a0 a1 a2 a3 j).main_v4_4 : Vec Ideal S16x14x14x8192 .f32) (ix4 n h w d)
      = ((∑ i ∈ Finset.range j, sk (fun ch => r1 n ch h w) s1 h1 i * sk (fun ch => r2 n ch h w) s2 h2 ((8192 - i + d.val) % 8192) : ℝ) : EReal) := by
  induction j with
  | zero =>
    rw [Finset.sum_range_zero]
    show Ideal.ofBits .f32 0x00000000#32 = _
    exact bits_zero
  | succ j ih =>
    have e : (iter a0 a1 a2 a3 (j + 1)).main_v4_4 = b26 j (iter a0 a1 a2 a3 j) := rfl
    obtain ⟨f0, f1⟩ := iter_fixed j a0 a1 a2 a3
    rw [e, b26_apply _ j (by omega) (8192 - j) (by omega), ih (by omega), f0, f1, twice_apply, Finset.sum_range_succ, EReal.coe_add, EReal.coe_mul]
    refine congrArg₂ (fun a b : EReal => _ + a * b) ?_ ?_
    · exact dotC_sketch H1 a0 _ n h w _ fun ch => X1 n ch h w
    · exact dotC_sketch H2 a1 _ n h w _ fun ch => X2 n ch h w

/-- The reference's result at an index. -/
theorem ref_value (n : Fin 16) (h w : Fin 14) (d : Fin 8192) :
    (R_main_v6 (iter a0 a1 a2 a3 8192) : Vec Ideal S16x14x14x8192 .f32) (ix4 n h w d)
      = (((∑ j ∈ Finset.range 8192, sk (fun ch => r1 n ch h w) s1 h1 j * sk (fun ch => r2 n ch h w) s2 h2 ((8192 - j + d.val) % 8192)) * 8192 : ℝ) : EReal) := by
  rw [EReal.coe_mul]
  exact congrArg₂ (fun a b : EReal => a * b) (iter_apply 8192 a0 a1 a2 a3 X1 X2 H1 H2 le_rfl n h w d)
    (show Ideal.ofBits .f32 0x46000000#32 = _ from bits_8192)

end Cert.Bilin.Ref

end
-- ==== Proof.PreVal.lean ====
/- What the precondition says: real activations, and matrices with one sign in every row. -/
module

public import proofs.«01_k».proof.Proof.Gen.Pre_sketches
public import proofs.«01_k».proof.Proof.Fold
public import Idealize.ShloMosaic.Lib.IndicatorCount
public import Idealize.ShloMosaic.Lib.Pointwise.Reduce

@[expose] public section

noncomputable section

namespace Cert.Bilin.Pre

open Idealize.ShloMosaic hiding ix1 ix2 ix3 ix4
open Idealize.ShloMosaic.ValueIdx Cert.Pre_sketches Cert.Pre_sketches.Gen

theorem bits_top : Ideal.ofBits .f32 0x7F800000#32 = ⊤ := by simp [Ideal.ofBits, Ideal.ieee]

theorem ofBool_one {b : Bool} (h : BitVec.ofBool b = 1#1) : b = true := by
  cases b
  · exact absurd h (by decide)
  · rfl

/-- An extended real below infinity in absolute value is a real number. -/
theorem real_of_olt {x : EReal} (h : Ideal.cmp .olt (max x (-x)) (Ideal.ofBits .f32 0x7F800000#32) = 1#1) : ∃ r : ℝ, x = ((r : ℝ) : EReal) := by
  have h' : max x (-x) < ⊤ := by
    rw [← bits_top]
    exact of_decide_eq_true (ofBool_one h)
  rw [max_lt_iff] at h'
  induction x using EReal.rec with
  | bot => exact absurd h'.2 (by simp)
  | coe r => exact ⟨r, rfl⟩
  | top => exact absurd h'.1 (by simp)

/-- An entry that compares equal to 0, 1 or −1 is one of them. -/
theorem entry_of_ori {x : EReal}
    (h : (Ideal.cmp .oeq x (Ideal.ofBits .f32 0x00000000#32) ||| Ideal.cmp .oeq x (Ideal.ofBits .f32 0x3F800000#32))
      ||| Ideal.cmp .oeq x (Ideal.ofBits .f32 0xBF800000#32) = 1#1) :
    x = ((0 : ℝ) : EReal) ∨ x = ((1 : ℝ) : EReal) ∨ x = ((-1 : ℝ) : EReal) := by
  rw [bits_zero, bits_one, bits_neg_one] at h
  by_cases h0 : x = ((0 : ℝ) : EReal)
  · exact Or.inl h0
  by_cases h1 : x = ((1 : ℝ) : EReal)
  · exact Or.inr (Or.inl h1)
  by_cases h2 : x = ((-1 : ℝ) : EReal)
  · exact Or.inr (Or.inr h2)
  exfalso
  revert h
  show ((BitVec.ofBool (decide _) ||| BitVec.ofBool (decide _)) ||| BitVec.ofBool (decide _) = 1#1) → False
  rw [decide_eq_false h0, decide_eq_false h1, decide_eq_false h2]
  decide

/-- A row's count of nonzero entries. -/
theorem count_row (S : FVec Ideal S512x8192 .f32) (c : Fin 512) :
    Host.reduce IntOp.addi (extui 32 (cmpf .une S (broadcastInDim S512x8192 ![] bcast_S_S512x8192 (constant S_ .f32 0x00000000#32))) natLt_1_32)
        (constantI S_ 32 0#32) reducesTo_S512x8192_S512_d1 h_S_ (ix1 c)
      = BitVec.ofNat 32 (Finset.univ.filter fun j : Fin 8192 => S (ix2 c j) ≠ ((0 : ℝ) : EReal)).card := by
  have : ∀ j : Fin 8192, Ideal.cmp .une (S (ix2 c j)) (Ideal.ofBits .f32 0x00000000#32) = 1#1 ↔ S (ix2 c j) ≠ ((0 : ℝ) : EReal) := by
    intro j
    rw [bits_zero]
    show BitVec.ofBool (decide _) = 1#1 ↔ _
    constructor
    · intro h; exact of_decide_eq_true (ofBool_one h)
    · intro h; rw [decide_eq_true h]; rfl
  simp_rw [← this]
  rw [← IndicatorCount.fold_addi_setWidth_eq_card]
  simp only [pointwise]
  rfl

/-- A matrix of 0, 1 and −1 with one nonzero entry in every row is a sketch. -/
theorem sketch_of (S : FVec Ideal S512x8192 .f32)
    (hv : ∀ c j, S (ix2 c j) = ((0 : ℝ) : EReal) ∨ S (ix2 c j) = ((1 : ℝ) : EReal) ∨ S (ix2 c j) = ((-1 : ℝ) : EReal))
    (hc : ∀ c, BitVec.ofNat 32 (Finset.univ.filter fun j : Fin 8192 => S (ix2 c j) ≠ ((0 : ℝ) : EReal)).card = 1#32) :
    ∃ s h, IsSketch S s h := by
  have one : ∀ c, ∃ j : Fin 8192, (Finset.univ.filter fun j : Fin 8192 => S (ix2 c j) ≠ ((0 : ℝ) : EReal)) = {j} := by
    intro c
    refine Finset.card_eq_one.mp ?_
    have e := congrArg BitVec.toNat (hc c)
    rw [BitVec.toNat_ofNat] at e
    have l : (Finset.univ.filter fun j : Fin 8192 => S (ix2 c j) ≠ ((0 : ℝ) : EReal)).card ≤ 8192 := (Finset.card_filter_le _ _).trans (by simp)
    rw [Nat.mod_eq_of_lt (by omega)] at e
    exact e
  choose h hh using one
  have nz : ∀ c, S (ix2 c (h c)) ≠ ((0 : ℝ) : EReal) := fun c => by
    have : h c ∈ (Finset.univ.filter fun j : Fin 8192 => S (ix2 c j) ≠ ((0 : ℝ) : EReal)) := by rw [hh c]; exact Finset.mem_singleton_self _
    exact (Finset.mem_filter.mp this).2
  have sg : ∀ c, ∃ r : ℝ, (r = 1 ∨ r = -1) ∧ S (ix2 c (h c)) = ((r : ℝ) : EReal) := fun c => by
    rcases hv c (h c) with e | e | e
    · exact absurd e (nz c)
    · exact ⟨1, Or.inl rfl, e⟩
    · exact ⟨-1, Or.inr rfl, e⟩
  choose s hs using sg
  refine ⟨s, fun c => (h c).val, fun c => (hs c).1, fun c => (h c).isLt, fun c j => ?_⟩
  by_cases e : (h c).val = j.val
  · rw [if_pos e, ← (hs c).2, Fin.ext e]
  · rw [if_neg e]
    by_contra hne
    have : j ∈ (Finset.univ.filter fun j : Fin 8192 => S (ix2 c j) ≠ ((0 : ℝ) : EReal)) := Finset.mem_filter.mpr ⟨Finset.mem_univ _, hne⟩
    rw [hh c] at this
    exact e (congrArg Fin.val (Finset.mem_singleton.mp this).symm)

variable (a0 a1 : FVec Ideal S16x512x14x14 .f32) (a2 a3 : FVec Ideal S512x8192 .f32)

/-- The rows' counts as the precondition takes them. -/
def counts (S : FVec Ideal S512x8192 .f32) : IVec S512 32 :=
  Host.reduce IntOp.addi (extui 32 (cmpf .une S (broadcastInDim S512x8192 ![] bcast_S_S512x8192 (constant S_ .f32 0x00000000#32))) natLt_1_32)
    (constantI S_ 32 0#32) reducesTo_S512x8192_S512_d1 h_S_

theorem counts_one (S : FVec Ideal S512x8192 .f32) (c : Fin 512)
    (h : cmpi .eq (counts S) (broadcastInDim S512 ![] bcast_S_S512 (constantI S_ 32 1#32)) = fun _ => 1#1) : counts S (ix1 c) = 1#32 := by
  have e := congrFun h (ix1 c)
  generalize counts S = v at e ⊢
  exact of_decide_eq_true (ofBool_one e)

/-- The precondition's six arrays, decoded. -/
theorem decode (p0 : (fn a0 a1 a2 a3).1 = fun _ => 1#1) (p1 : (fn a0 a1 a2 a3).2.1 = fun _ => 1#1)
    (p2 : (fn a0 a1 a2 a3).2.2.1 = fun _ => 1#1) (p3 : (fn a0 a1 a2 a3).2.2.2.1 = fun _ => 1#1)
    (p4 : (fn a0 a1 a2 a3).2.2.2.2.1 = fun _ => 1#1) (p5 : (fn a0 a1 a2 a3).2.2.2.2.2 = fun _ => 1#1) :
    (∃ r1 : Fin 16 → Fin 512 → Fin 14 → Fin 14 → ℝ, ∀ n ch h w, a0 (ix4 n ch h w) = ((r1 n ch h w : ℝ) : EReal))
      ∧ (∃ r2 : Fin 16 → Fin 512 → Fin 14 → Fin 14 → ℝ, ∀ n ch h w, a1 (ix4 n ch h w) = ((r2 n ch h w : ℝ) : EReal))
      ∧ (∃ s h, IsSketch a2 s h) ∧ ∃ s h, IsSketch a3 s h := by
  dsimp only [fn, fn_part1] at p0 p1 p2 p3 p4 p5
  have q0 : ∀ n ch h w, ∃ r : ℝ, a0 (ix4 n ch h w) = ((r : ℝ) : EReal) := fun n ch h w => real_of_olt (congrFun p0 (ix4 n ch h w))
  have q1 : ∀ n ch h w, ∃ r : ℝ, a1 (ix4 n ch h w) = ((r : ℝ) : EReal) := fun n ch h w => real_of_olt (congrFun p1 (ix4 n ch h w))
  choose r1 h1 using q0
  choose r2 h2 using q1
  refine ⟨⟨r1, h1⟩, ⟨r2, h2⟩, sketch_of a2 (fun c j => entry_of_ori (congrFun p2 (ix2 c j))) fun c => ?_,
    sketch_of a3 (fun c j => entry_of_ori (congrFun p3 (ix2 c j))) fun c => ?_⟩
  · rw [← count_row]
    exact counts_one a2 c p4
  · rw [← count_row]
    exact counts_one a3 c p5

end Cert.Bilin.Pre

end
-- ==== Proof.Algebraic.lean ====
/- The two programs' results are equal on the extended reals, and the reference's frame. -/
module

public import proofs.«01_k».proof.Defs
public import proofs.«01_k».proof.Proof.KernelVal
public import proofs.«01_k».proof.Proof.RefVal
public import proofs.«01_k».proof.Proof.PreVal
public import proofs.«01_k».proof.Proof.KRun
public import proofs.«01_k».proof.Proof.Gen.ReferenceIdeal.StepRun

@[expose] public section

noncomputable section

namespace Cert.Bilin

open Idealize.ShloMosaic hiding ix1 ix2 ix3 ix4
open Idealize.ShloMosaic.ValueIdx Idealize.ShloMosaic.TcCoe

/-- Two arrays of the result's shape that agree at all coordinates are equal. -/
theorem ext4 {x y : Vec Ideal Cert.KernelIdeal.S16x14x14x8192 .f32} (h : ∀ n h w d, x (ix4 n h w d) = y (ix4 n h w d)) : x = y := by
  funext i
  obtain ⟨n, p, w, d, rfl⟩ : ∃ (n : Fin 16) (p w : Fin 14) (d : Fin 8192), i = ix4 n p w d :=
    ⟨i 0, i 1, i 2, i 3, by funext a; fin_cases a <;> rfl⟩
  exact h n p w d

/-- From equal arguments that meet the precondition, the kernel's result array is the reference's. -/
theorem results_eq (m : (ℓ : Loc KernelIdeal.nD KernelIdeal.τ KernelIdeal.sig) → Buf (Elt Ideal) ℓ) (ρ : Dev KernelIdeal.nD → PrngReg)
    (hp : Pre_KernelIdeal_sketches m) (c : Dev KernelIdeal.nD)
    (a0 a1 : FVec Ideal ReferenceIdeal.S16x512x14x14 .f32) (a2 a3 : FVec Ideal ReferenceIdeal.S512x8192 .f32)
    (e0 : a0 = m ((c.tc : Thread KernelIdeal.nD KernelIdeal.τ).loc KernelIdeal.main_arg0))
    (e1 : a1 = m ((c.tc : Thread KernelIdeal.nD KernelIdeal.τ).loc KernelIdeal.main_arg1))
    (e2 : a2 = m ((c.tc : Thread KernelIdeal.nD KernelIdeal.τ).loc KernelIdeal.main_arg2))
    (e3 : a3 = m ((c.tc : Thread KernelIdeal.nD KernelIdeal.τ).loc KernelIdeal.main_arg3)) :
    (ReferenceIdeal.Step.R_main_v6 (Ref.iter a0 a1 a2 a3 8192) : Vec Ideal KernelIdeal.S16x14x14x8192 .f32)
      = KernelIdeal.Gen.W11 m ρ c KernelIdeal.main_v189 := by
  obtain ⟨p0, p1, p2, p3, p4, p5⟩ := hp c
  obtain ⟨⟨r1, X1⟩, ⟨r2, X2⟩, ⟨s1, h1, H1⟩, ⟨s2, h2, H2⟩⟩ := Pre.decode _ _ _ _ p0 p1 p2 p3 p4 p5
  subst e0 e1 e2 e3
  exact ext4 fun n h w d =>
    (Ref.ref_value _ _ _ _ X1 X2 H1 H2 n h w d).trans (kernel_value m ρ c X1 X2 H1 H2 n h w d).symm

/-- On the extended reals, from agreeing arguments that meet the precondition, the kernel and the reference both run and
    end with equal results, the arguments unchanged. -/
theorem algebraic : algebraic_KernelIdeal_ReferenceIdeal_pre_sketches := by
  intro m g m' g' hp ha
  refine ⟨fun c => KernelIdeal.Gen.W11 m g c KernelIdeal.main_v189, KernelIdeal.Bilin.run_result m g, ?_⟩
  refine (θ_run ReferenceIdeal.defs _ _).mono (fun r h c => ⟨(h c).1.trans ?_, (h c).2⟩)
    (ReferenceIdeal.StepRun.run_iter m' g' (fun c => Ref.iter
      (m' ((c.tc : Thread ReferenceIdeal.nD ReferenceIdeal.τ).loc ReferenceIdeal.main_arg0))
      (m' ((c.tc : Thread ReferenceIdeal.nD ReferenceIdeal.τ).loc ReferenceIdeal.main_arg1))
      (m' ((c.tc : Thread ReferenceIdeal.nD ReferenceIdeal.τ).loc ReferenceIdeal.main_arg2))
      (m' ((c.tc : Thread ReferenceIdeal.nD ReferenceIdeal.τ).loc ReferenceIdeal.main_arg3))) (fun _ => rfl) (fun _ _ => rfl))
  exact results_eq m g hp c _ _ _ _ (ha c).1 (ha c).2.1 (ha c).2.2.1 (ha c).2.2.2

/-- The reference runs and leaves its arguments unchanged; it declares no semaphore. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run ReferenceIdeal.defs _ _).mono (fun r h => ⟨fun c => (h c).2, sem_eq_zero_of_no_sems (by decide) r.2⟩)
    (ReferenceIdeal.Value.run (F := Ideal) m g)

end Cert.Bilin

end
-- ==== Proof.lean ====
/- The certificate, assembled: the frames are the generated ones, the idealization rewrote nothing, and the equality with
   the reference is `Cert.Bilin.algebraic`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Pre_sketches
public import proofs.«01_k».proof.Proof.Algebraic
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts, Cert.Pre_sketches.Gen.facts,
    fun m g _ => Cert.Kernel.Gen.frame m g, fun m g _ => Cert.KernelIdeal.Gen.frame m g, fun m g _ => Cert.KernelIdeal.Gen.frame m g,
    fun m g _ => Cert.Bilin.frame_reference m g, fun m g _ => Cert.Bilin.frame_reference m g, trivial, Cert.Bilin.algebraic⟩

end Cert.Proof

end
